-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x256x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S4x8x64x64 : Shape := ⟨4, ![4, 8, 64, 64]⟩
abbrev S4x8x64 : Shape := ⟨3, ![4, 8, 64]⟩
abbrev S2x64x256 : Shape := ⟨3, ![2, 64, 256]⟩
abbrev S4x2x64x256 : Shape := ⟨4, ![4, 2, 64, 256]⟩
abbrev S4 : Shape := ⟨1, ![4]⟩
abbrev S_ : Shape := ⟨0, ![]⟩
abbrev S512x512 : Shape := ⟨2, ![512, 512]⟩
abbrev S2x4x256x64 : Shape := ⟨4, ![2, 4, 256, 64]⟩
abbrev S8x256x64 : Shape := ⟨3, ![8, 256, 64]⟩
abbrev S128x256 : Shape := ⟨2, ![128, 256]⟩
abbrev S8x128x64 : Shape := ⟨3, ![8, 128, 64]⟩
abbrev S8x128x256 : Shape := ⟨3, ![8, 128, 256]⟩
abbrev S1x128x256 : Shape := ⟨3, ![1, 128, 256]⟩
abbrev S8x128 : Shape := ⟨2, ![8, 128]⟩
abbrev S8x64x64 : Shape := ⟨3, ![8, 64, 64]⟩
abbrev S1x8x64x64 : Shape := ⟨4, ![1, 8, 64, 64]⟩
abbrev S8x64 : Shape := ⟨2, ![8, 64]⟩
abbrev S1x8x64 : Shape := ⟨3, ![1, 8, 64]⟩
abbrev S1 : Shape := ⟨1, ![1]⟩
abbrev S8x64x1 : Shape := ⟨3, ![8, 64, 1]⟩
abbrev S2x4x64x64 : Shape := ⟨4, ![2, 4, 64, 64]⟩
abbrev S2x64x4x64 : Shape := ⟨4, ![2, 64, 4, 64]⟩
abbrev S1x2x64x256 : Shape := ⟨4, ![1, 2, 64, 256]⟩
abbrev S128x512 : Shape := ⟨2, ![128, 512]⟩
abbrev S2x64x512 : Shape := ⟨3, ![2, 64, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S4x8x64x64, .bf16⟩
  | .local _ .vmem, ⟨7, _⟩ => ⟨S4x8x64, .f32⟩
  | .local _ .vmem, ⟨8, _⟩ => ⟨S4x8x64x64, .bf16⟩
  | .local _ .vmem, ⟨9, _⟩ => ⟨S4x8x64, .f32⟩
  | .local _ .vmem, ⟨10, _⟩ => ⟨S2x64x256, .bf16⟩
  | .local _ .vmem, ⟨11, _⟩ => ⟨S4x2x64x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_227 : BitVec 32 := 0#32
  let c0_i32_225 : BitVec 32 := 0#32
  let c1_i32_226 : BitVec 32 := 1#32
  let v330 : BitVec 32 := Scalar.muli c0_i32_225 c1_i32_226
  let v331 : BitVec 32 := Scalar.addi c0_i32_227 v330
  v331.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_227 : BitVec 32 := 0#32
  let c1_i32_225 : BitVec 32 := 1#32
  let c1_i32_226 : BitVec 32 := 1#32
  let v330 : BitVec 32 := Scalar.muli c1_i32_225 c1_i32_226
  let v331 : BitVec 32 := Scalar.addi c0_i32_227 v330
  v331.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_227 : BitVec 32 := 0#32
  let c2_i32_225 : BitVec 32 := 2#32
  let c1_i32_226 : BitVec 32 := 1#32
  let v330 : BitVec 32 := Scalar.muli c2_i32_225 c1_i32_226
  let v331 : BitVec 32 := Scalar.addi c0_i32_227 v330
  v331.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_227 : BitVec 32 := 0#32
  let c3_i32_225 : BitVec 32 := 3#32
  let c1_i32_226 : BitVec 32 := 1#32
  let v330 : BitVec 32 := Scalar.muli c3_i32_225 c1_i32_226
  let v331 : BitVec 32 := Scalar.addi c0_i32_227 v330
  v331.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let v93 : BitVec 1 := Scalar.cmpi .eq v2 c0_i32_32
  let c3_i32_33 : BitVec 32 := 3#32
  let v94 : BitVec 1 := Scalar.cmpi .eq v2 c3_i32_33
  let v95 : BitVec 1 := Scalar.ori v93 v94
  let v96 : BitVec 32 := Scalar.extui v95
  let c0_i32_34 : BitVec 32 := 0#32
  let v97 : BitVec 1 := Scalar.cmpi .ne v96 c0_i32_34
  v97

def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_253 : BitVec 32 := 0#32
  let v384 : BitVec 1 := Scalar.cmpi .ne v2 c0_i32_253
  let v385 : BitVec 32 := Scalar.extui v384
  let c0_i32_254 : BitVec 32 := 0#32
  let v386 : BitVec 1 := Scalar.cmpi .ne v385 c0_i32_254
  v386

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev5 : Nat :=
  let c0_i32_292 : BitVec 32 := 0#32
  let c0_i32_290 : BitVec 32 := 0#32
  let c1_i32_291 : BitVec 32 := 1#32
  let v450 : BitVec 32 := Scalar.muli c0_i32_290 c1_i32_291
  let v451 : BitVec 32 := Scalar.addi c0_i32_292 v450
  v451.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev6 : Nat :=
  let c0_i32_303 : BitVec 32 := 0#32
  let c0_i32_301 : BitVec 32 := 0#32
  let c1_i32_302 : BitVec 32 := 1#32
  let v460 : BitVec 32 := Scalar.muli c0_i32_301 c1_i32_302
  let v461 : BitVec 32 := Scalar.addi c0_i32_303 v460
  v461.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_255 : BitVec 32 := 1#32
  let v387 : BitVec 1 := Scalar.cmpi .ne v2 c1_i32_255
  let v388 : BitVec 32 := Scalar.extui v387
  let c0_i32_256 : BitVec 32 := 0#32
  let v389 : BitVec 1 := Scalar.cmpi .ne v388 c0_i32_256
  v389

def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev7 : Nat :=
  let c0_i32_292 : BitVec 32 := 0#32
  let c1_i32_290 : BitVec 32 := 1#32
  let c1_i32_291 : BitVec 32 := 1#32
  let v450 : BitVec 32 := Scalar.muli c1_i32_290 c1_i32_291
  let v451 : BitVec 32 := Scalar.addi c0_i32_292 v450
  v451.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev8 : Nat :=
  let c0_i32_303 : BitVec 32 := 0#32
  let c1_i32_301 : BitVec 32 := 1#32
  let c1_i32_302 : BitVec 32 := 1#32
  let v460 : BitVec 32 := Scalar.muli c1_i32_301 c1_i32_302
  let v461 : BitVec 32 := Scalar.addi c0_i32_303 v460
  v461.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_284 : BitVec 32 := 2#32
  let v444 : BitVec 1 := Scalar.cmpi .ne v2 c2_i32_284
  let v445 : BitVec 32 := Scalar.extui v444
  let c0_i32_285 : BitVec 32 := 0#32
  let v446 : BitVec 1 := Scalar.cmpi .ne v445 c0_i32_285
  v446

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev9 : Nat :=
  let c0_i32_292 : BitVec 32 := 0#32
  let c2_i32_290 : BitVec 32 := 2#32
  let c1_i32_291 : BitVec 32 := 1#32
  let v450 : BitVec 32 := Scalar.muli c2_i32_290 c1_i32_291
  let v451 : BitVec 32 := Scalar.addi c0_i32_292 v450
  v451.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev10 : Nat :=
  let c0_i32_303 : BitVec 32 := 0#32
  let c2_i32_301 : BitVec 32 := 2#32
  let c1_i32_302 : BitVec 32 := 1#32
  let v460 : BitVec 32 := Scalar.muli c2_i32_301 c1_i32_302
  let v461 : BitVec 32 := Scalar.addi c0_i32_303 v460
  v461.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_286 : BitVec 32 := 3#32
  let v447 : BitVec 1 := Scalar.cmpi .ne v2 c3_i32_286
  let v448 : BitVec 32 := Scalar.extui v447
  let c0_i32_287 : BitVec 32 := 0#32
  let v449 : BitVec 1 := Scalar.cmpi .ne v448 c0_i32_287
  v449

def k0_off10 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev11 : Nat :=
  let c0_i32_292 : BitVec 32 := 0#32
  let c3_i32_290 : BitVec 32 := 3#32
  let c1_i32_291 : BitVec 32 := 1#32
  let v450 : BitVec 32 := Scalar.muli c3_i32_290 c1_i32_291
  let v451 : BitVec 32 := Scalar.addi c0_i32_292 v450
  v451.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev12 : Nat :=
  let c0_i32_303 : BitVec 32 := 0#32
  let c3_i32_301 : BitVec 32 := 3#32
  let c1_i32_302 : BitVec 32 := 1#32
  let v460 : BitVec 32 := Scalar.muli c3_i32_301 c1_i32_302
  let v461 : BitVec 32 := Scalar.addi c0_i32_303 v460
  v461.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let v93 : BitVec 1 := Scalar.cmpi .eq v2 c0_i32_32
  let c3_i32_33 : BitVec 32 := 3#32
  let v94 : BitVec 1 := Scalar.cmpi .eq v2 c3_i32_33
  let v95 : BitVec 1 := Scalar.ori v93 v94
  let v_true : BitVec 1 := 1#1
  let v98 : BitVec 1 := Scalar.xori v95 v_true
  let v99 : BitVec 32 := Scalar.extui v98
  let c0_i32_35 : BitVec 32 := 0#32
  let v100 : BitVec 1 := Scalar.cmpi .ne v99 c0_i32_35
  v100

def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_253 : BitVec 32 := 2#32
  let v384 : BitVec 1 := Scalar.cmpi .ne v2 c2_i32_253
  let v385 : BitVec 32 := Scalar.extui v384
  let c0_i32_254 : BitVec 32 := 0#32
  let v386 : BitVec 1 := Scalar.cmpi .ne v385 c0_i32_254
  v386

def k0_off13 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev13 : Nat :=
  let c0_i32_292 : BitVec 32 := 0#32
  let c2_i32_290 : BitVec 32 := 2#32
  let c1_i32_291 : BitVec 32 := 1#32
  let v450 : BitVec 32 := Scalar.muli c2_i32_290 c1_i32_291
  let v451 : BitVec 32 := Scalar.addi c0_i32_292 v450
  v451.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev14 : Nat :=
  let c0_i32_303 : BitVec 32 := 0#32
  let c2_i32_301 : BitVec 32 := 2#32
  let c1_i32_302 : BitVec 32 := 1#32
  let v460 : BitVec 32 := Scalar.muli c2_i32_301 c1_i32_302
  let v461 : BitVec 32 := Scalar.addi c0_i32_303 v460
  v461.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_255 : BitVec 32 := 3#32
  let v387 : BitVec 1 := Scalar.cmpi .ne v2 c3_i32_255
  let v388 : BitVec 32 := Scalar.extui v387
  let c0_i32_256 : BitVec 32 := 0#32
  let v389 : BitVec 1 := Scalar.cmpi .ne v388 c0_i32_256
  v389

def k0_off16 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev15 : Nat :=
  let c0_i32_292 : BitVec 32 := 0#32
  let c3_i32_290 : BitVec 32 := 3#32
  let c1_i32_291 : BitVec 32 := 1#32
  let v450 : BitVec 32 := Scalar.muli c3_i32_290 c1_i32_291
  let v451 : BitVec 32 := Scalar.addi c0_i32_292 v450
  v451.toNat
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev16 : Nat :=
  let c0_i32_303 : BitVec 32 := 0#32
  let c3_i32_301 : BitVec 32 := 3#32
  let c1_i32_302 : BitVec 32 := 1#32
  let v460 : BitVec 32 := Scalar.muli c3_i32_301 c1_i32_302
  let v461 : BitVec 32 := Scalar.addi c0_i32_303 v460
  v461.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_284 : BitVec 32 := 0#32
  let v444 : BitVec 1 := Scalar.cmpi .ne v2 c0_i32_284
  let v445 : BitVec 32 := Scalar.extui v444
  let c0_i32_285 : BitVec 32 := 0#32
  let v446 : BitVec 1 := Scalar.cmpi .ne v445 c0_i32_285
  v446

def k0_off19 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev17 : Nat :=
  let c0_i32_292 : BitVec 32 := 0#32
  let c0_i32_290 : BitVec 32 := 0#32
  let c1_i32_291 : BitVec 32 := 1#32
  let v450 : BitVec 32 := Scalar.muli c0_i32_290 c1_i32_291
  let v451 : BitVec 32 := Scalar.addi c0_i32_292 v450
  v451.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev18 : Nat :=
  let c0_i32_303 : BitVec 32 := 0#32
  let c0_i32_301 : BitVec 32 := 0#32
  let c1_i32_302 : BitVec 32 := 1#32
  let v460 : BitVec 32 := Scalar.muli c0_i32_301 c1_i32_302
  let v461 : BitVec 32 := Scalar.addi c0_i32_303 v460
  v461.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_286 : BitVec 32 := 1#32
  let v447 : BitVec 1 := Scalar.cmpi .ne v2 c1_i32_286
  let v448 : BitVec 32 := Scalar.extui v447
  let c0_i32_287 : BitVec 32 := 0#32
  let v449 : BitVec 1 := Scalar.cmpi .ne v448 c0_i32_287
  v449

def k0_off22 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_293 : BitVec 32 := 0#32
  let c0_i32_294 : BitVec 32 := 0#32
  let c0_i32_295 : BitVec 32 := 0#32
  ![v2.toNat, 0, 0, 0]
def k0_dev19 : Nat :=
  let c0_i32_292 : BitVec 32 := 0#32
  let c1_i32_290 : BitVec 32 := 1#32
  let c1_i32_291 : BitVec 32 := 1#32
  let v450 : BitVec 32 := Scalar.muli c1_i32_290 c1_i32_291
  let v451 : BitVec 32 := Scalar.addi c0_i32_292 v450
  v451.toNat
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![v2.toNat, 0, 0]
def k0_dev20 : Nat :=
  let c0_i32_303 : BitVec 32 := 0#32
  let c1_i32_301 : BitVec 32 := 1#32
  let c1_i32_302 : BitVec 32 := 1#32
  let v460 : BitVec 32 := Scalar.muli c1_i32_301 c1_i32_302
  let v461 : BitVec 32 := Scalar.addi c0_i32_303 v460
  v461.toNat
def k0_off25 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : Index := Scalar.indexCast v2
  let c0_36 : Index := 0#32
  let c0_37 : Index := 0#32
  let c0_38 : Index := 0#32
  ![v101.toNat, 0, 0, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : Index := Scalar.indexCast v2
  let c0_42 : Index := 0#32
  let c0_43 : Index := 0#32
  ![v108.toNat, 0, 0]
def k0_dev21 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_86 : BitVec 32 := 1#32
  let v170 : BitVec 32 := Scalar.addi v2 c1_i32_86
  let c4_i32_87 : BitVec 32 := 4#32
  let c0_i32_88 : BitVec 32 := 0#32
  let v171 : BitVec 1 := Scalar.cmpi .eq c4_i32_87 c0_i32_88
  let c1_i32_89 : BitVec 32 := 1#32
  let v172 : BitVec 32 := Scalar.select v171 c1_i32_89 c4_i32_87
  let v173 : BitVec 32 := Scalar.remsi v170 v172
  let c0_i32_91 : BitVec 32 := 0#32
  let v175 : BitVec 1 := Scalar.cmpi .slt v173 c0_i32_91
  let c0_i32_92 : BitVec 32 := 0#32
  let v176 : BitVec 1 := Scalar.cmpi .slt v172 c0_i32_92
  let v177 : BitVec 1 := Scalar.xori v175 v176
  let c0_i32_90 : BitVec 32 := 0#32
  let v174 : BitVec 1 := Scalar.cmpi .ne v173 c0_i32_90
  let v178 : BitVec 1 := Scalar.andi v177 v174
  let v179 : BitVec 32 := Scalar.addi v173 v172
  let v180 : BitVec 32 := Scalar.select v178 v179 v173
  let c1_i32_96 : BitVec 32 := 1#32
  let v181 : BitVec 32 := Scalar.muli v180 c1_i32_96
  let v182 : BitVec 32 := Scalar.addi c0_i32_97 v181
  v182.toNat
def k0_dev22 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_101 : BitVec 32 := 3#32
  let v189 : BitVec 32 := Scalar.addi v2 c3_i32_101
  let c4_i32_102 : BitVec 32 := 4#32
  let c0_i32_103 : BitVec 32 := 0#32
  let v190 : BitVec 1 := Scalar.cmpi .eq c4_i32_102 c0_i32_103
  let c1_i32_104 : BitVec 32 := 1#32
  let v191 : BitVec 32 := Scalar.select v190 c1_i32_104 c4_i32_102
  let v192 : BitVec 32 := Scalar.remsi v189 v191
  let c0_i32_106 : BitVec 32 := 0#32
  let v194 : BitVec 1 := Scalar.cmpi .slt v192 c0_i32_106
  let c0_i32_107 : BitVec 32 := 0#32
  let v195 : BitVec 1 := Scalar.cmpi .slt v191 c0_i32_107
  let v196 : BitVec 1 := Scalar.xori v194 v195
  let c0_i32_105 : BitVec 32 := 0#32
  let v193 : BitVec 1 := Scalar.cmpi .ne v192 c0_i32_105
  let v197 : BitVec 1 := Scalar.andi v196 v193
  let v198 : BitVec 32 := Scalar.addi v192 v191
  let v199 : BitVec 32 := Scalar.select v197 v198 v192
  let c1_i32_111 : BitVec 32 := 1#32
  let v200 : BitVec 32 := Scalar.muli v199 c1_i32_111
  let v201 : BitVec 32 := Scalar.addi c0_i32_112 v200
  v201.toNat
def k0_dev23 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_116 : BitVec 32 := 2#32
  let v208 : BitVec 32 := Scalar.addi v2 c2_i32_116
  let c4_i32_117 : BitVec 32 := 4#32
  let c0_i32_118 : BitVec 32 := 0#32
  let v209 : BitVec 1 := Scalar.cmpi .eq c4_i32_117 c0_i32_118
  let c1_i32_119 : BitVec 32 := 1#32
  let v210 : BitVec 32 := Scalar.select v209 c1_i32_119 c4_i32_117
  let v211 : BitVec 32 := Scalar.remsi v208 v210
  let c0_i32_121 : BitVec 32 := 0#32
  let v213 : BitVec 1 := Scalar.cmpi .slt v211 c0_i32_121
  let c0_i32_122 : BitVec 32 := 0#32
  let v214 : BitVec 1 := Scalar.cmpi .slt v210 c0_i32_122
  let v215 : BitVec 1 := Scalar.xori v213 v214
  let c0_i32_120 : BitVec 32 := 0#32
  let v212 : BitVec 1 := Scalar.cmpi .ne v211 c0_i32_120
  let v216 : BitVec 1 := Scalar.andi v215 v212
  let v217 : BitVec 32 := Scalar.addi v211 v210
  let v218 : BitVec 32 := Scalar.select v216 v217 v211
  let c1_i32_126 : BitVec 32 := 1#32
  let v219 : BitVec 32 := Scalar.muli v218 c1_i32_126
  let v220 : BitVec 32 := Scalar.addi c0_i32_127 v219
  v220.toNat
def k0_off27 (d0 : Dev nD) : Fin 3 → Nat :=
  let c0_133 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_132 : BitVec 32 := 64#32
  let v231 : BitVec 32 := Scalar.muli v2 c64_i32_132
  let v232 : Index := Scalar.indexCast v231
  let c0_134 : Index := 0#32
  ![0, v232.toNat, 0]
def k0_off28 (d0 : Dev nD) (c1_i32_135 : BitVec 32) : Fin 3 → Nat :=
  let c0_157 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.subi v2 c1_i32_135
  let c4_i32_136 : BitVec 32 := 4#32
  let v235 : BitVec 32 := Scalar.addi v234 c4_i32_136
  let c4_i32_137 : BitVec 32 := 4#32
  let c0_i32_138 : BitVec 32 := 0#32
  let v236 : BitVec 1 := Scalar.cmpi .eq c4_i32_137 c0_i32_138
  let c1_i32_139 : BitVec 32 := 1#32
  let v237 : BitVec 32 := Scalar.select v236 c1_i32_139 c4_i32_137
  let v238 : BitVec 32 := Scalar.remsi v235 v237
  let c0_i32_141 : BitVec 32 := 0#32
  let v240 : BitVec 1 := Scalar.cmpi .slt v238 c0_i32_141
  let c0_i32_142 : BitVec 32 := 0#32
  let v241 : BitVec 1 := Scalar.cmpi .slt v237 c0_i32_142
  let v242 : BitVec 1 := Scalar.xori v240 v241
  let c0_i32_140 : BitVec 32 := 0#32
  let v239 : BitVec 1 := Scalar.cmpi .ne v238 c0_i32_140
  let v243 : BitVec 1 := Scalar.andi v242 v239
  let v244 : BitVec 32 := Scalar.addi v238 v237
  let v245 : BitVec 32 := Scalar.select v243 v244 v238
  let c64_i32_156 : BitVec 32 := 64#32
  let v257 : BitVec 32 := Scalar.muli v245 c64_i32_156
  let v258 : Index := Scalar.indexCast v257
  let c0_158 : Index := 0#32
  ![0, v258.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x256x256, .f32⟩
  | .hbm, ⟨6, _⟩ => ⟨S2x256x4x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S256x1024, .i1⟩
  | .hbm, ⟨54, _⟩ => ⟨S256x1024, .i1⟩
  | .hbm, ⟨55, _⟩ => ⟨S256x1024, .i32⟩
  | .hbm, ⟨56, _⟩ => ⟨S256x1024, .i32⟩
  | .hbm, ⟨57, _⟩ => ⟨S256x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x1024, .i32⟩
  | .hbm, ⟨65, _⟩ => ⟨S256x1024, .i32⟩
  | .hbm, ⟨66, _⟩ => ⟨S_, .i32⟩
  | .hbm, ⟨67, _⟩ => ⟨S256x1024, .i32⟩
  | .hbm, ⟨68, _⟩ => ⟨S256x1024, .i1⟩
  | .hbm, ⟨69, _⟩ => ⟨S_, .i32⟩
  | .hbm, ⟨70, _⟩ => ⟨S256x1024, .i32⟩
  | .hbm, ⟨71, _⟩ => ⟨S256x1024, .i1⟩
  | .hbm, ⟨72, _⟩ => ⟨S_, .i32⟩
  | .hbm, ⟨73, _⟩ => ⟨S_, .i1⟩
  | .hbm, ⟨74, _⟩ => ⟨S256x1024, .i1⟩
  | .hbm, ⟨75, _⟩ => ⟨S256x1024, .i1⟩
  | .hbm, ⟨76, _⟩ => ⟨S256x1024, .i1⟩
  | .hbm, ⟨77, _⟩ => ⟨S256x1024, .i32⟩
  | .hbm, ⟨78, _⟩ => ⟨S256x1024, .i32⟩
  | .hbm, ⟨79, _⟩ => ⟨S256x1024, .i32⟩
  | .hbm, ⟨80, _⟩ => ⟨S_, .i32⟩
  | .hbm, ⟨81, _⟩ => ⟨S256x1024, .i32⟩
  | .hbm, ⟨82, _⟩ => ⟨S256x1024, .i1⟩
  | .hbm, ⟨83, _⟩ => ⟨S256x1024, .i1⟩
  | .hbm, ⟨84, _⟩ => ⟨S2x4x256x1024, .f32⟩
  | .hbm, ⟨85, _⟩ => ⟨S_, .f32⟩
  | .hbm, ⟨86, _⟩ => ⟨S2x4x256x1024, .f32⟩
  | .hbm, ⟨87, _⟩ => ⟨S2x4x256x1024, .f32⟩
  | .hbm, ⟨88, _⟩ => ⟨S1x1x256x1024, .i1⟩
  | .hbm, ⟨89, _⟩ => ⟨S_, .f32⟩
  | .hbm, ⟨90, _⟩ => ⟨S_, .f32⟩
  | .hbm, ⟨91, _⟩ => ⟨S2x4x256x1024, .i1⟩
  | .hbm, ⟨92, _⟩ => ⟨S2x4x256x1024, .f32⟩
  | .hbm, ⟨93, _⟩ => ⟨S2x4x256x1024, .f32⟩
  | .hbm, ⟨94, _⟩ => ⟨S_, .f32⟩
  | .hbm, ⟨95, _⟩ => ⟨S2x4x256, .f32⟩
  | .hbm, ⟨96, _⟩ => ⟨S2x4x256x1, .f32⟩
  | .hbm, ⟨97, _⟩ => ⟨S2x4x256x1024, .f32⟩
  | .hbm, ⟨98, _⟩ => ⟨S2x4x256x1024, .f32⟩
  | .hbm, ⟨99, _⟩ => ⟨S2x4x256x1024, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x4x256, .f32⟩
  | .hbm, ⟨105, _⟩ => ⟨S2x4x256x1, .f32⟩
  | .hbm, ⟨106, _⟩ => ⟨S_, .f32⟩
  | .hbm, ⟨107, _⟩ => ⟨S_, .f32⟩
  | .hbm, ⟨108, _⟩ => ⟨S2x4x256x1, .i1⟩
  | .hbm, ⟨109, _⟩ => ⟨S2x4x256x1, .f32⟩
  | .hbm, ⟨110, _⟩ => ⟨S2x4x256x1, .f32⟩
  | .hbm, ⟨111, _⟩ => ⟨S2x4x256x1024, .f32⟩
  | .hbm, ⟨112, _⟩ => ⟨S2x4x256x1024, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x4x256x1024, .i1⟩
  | .hbm, ⟨117, _⟩ => ⟨S2x4x256x1024, .f32⟩
  | .hbm, ⟨118, _⟩ => ⟨S2x4x256x1024, .f32⟩
  | .hbm, ⟨119, _⟩ => ⟨S2x4x64x256, .f32⟩
  | .hbm, ⟨120, _⟩ => ⟨S2x256x4x64, .f32⟩
  | .hbm, ⟨121, _⟩ => ⟨S2x256x256, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Protocol.lean ====
/-
Who waits for whom in the attention kernel, and what each arrival hands over.

Four devices, `c : Dev nD`. Device `c` owns one barrier semaphore and six arrays of four transfer semaphores.

* barrier of `c`: signalled once by each other device `d`; with the signal `d` hands over the places of its own
  memory that `c` is going to write (slot `c` of its two inboxes, one slot of its gather buffer);
* send semaphore `j` of the contexts or of the sums (`j ≠ c`): completed by `c`'s own copy to device `j`, gives the
  source slot back;
* receive semaphore `j` of the contexts or of the sums (`j ≠ c`): completed by device `j`'s copy, gives the inbox
  slot `j` filled with device `j`'s partial context or partial sum for `c`;
* gather send semaphore `t < 3`: completed by `c`'s own copy to device `c + t + 1`, gives a share of the staged
  context back;
* gather receive semaphore `t < 3`: completed by the copy of device `c - t - 1`, gives gather slot `t` filled with
  that device's context.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The device `k` places further on, and `k` places back -/

/-- The device `t + 1` places after `c`. -/
def fwd (c : Dev nD) (t : Fin 4) : Dev nD := ⟨(c.val + t.val + 1) % 4, Nat.mod_lt _ (by decide)⟩
/-- The device `t + 1` places before `c`. -/
def bwd (c : Dev nD) (t : Fin 4) : Dev nD := ⟨(c.val + 3 - t.val) % 4, Nat.mod_lt _ (by decide)⟩
/-- The gather slot of device `d` that device `c` writes: `c` is `gap d c + 1` places before `d`. -/
def gap (d c : Dev nD) : Fin 4 := ⟨(d.val + 3 - c.val) % 4, Nat.mod_lt _ (by decide)⟩

theorem bwd_fwd : ∀ (c : Dev nD) (t : Fin 4), bwd (fwd c t) t = c := by decide
theorem fwd_bwd : ∀ (c : Dev nD) (t : Fin 4), fwd (bwd c t) t = c := by decide
theorem gap_fwd : ∀ (c : Dev nD) (t : Fin 4), gap (fwd c t) c = t := by decide
theorem fwd_gap : ∀ c d : Dev nD, fwd c (gap d c) = d := by decide
theorem fwd_three : ∀ c : Dev nD, fwd c 3 = c := by decide
theorem bwd_three : ∀ c : Dev nD, bwd c 3 = c := by decide
theorem bwd_inj : ∀ (c : Dev nD), Function.Injective (bwd c) := by decide

/-! ## Memory: the buffers and their slots -/

abbrev payC : Memref sig .tc .vmem S4x8x64x64 .bf16 := Memref.whole cc0_scratch0
abbrev payS : Memref sig .tc .vmem S4x8x64 .f32 := Memref.whole cc0_scratch1
abbrev inC : Memref sig .tc .vmem S4x8x64x64 .bf16 := Memref.whole cc0_scratch2
abbrev inS : Memref sig .tc .vmem S4x8x64 .f32 := Memref.whole cc0_scratch3
abbrev stage : Memref sig .tc .vmem S2x64x256 .bf16 := Memref.whole cc0_scratch4
abbrev gath : Memref sig .tc .vmem S4x2x64x256 .bf16 := Memref.whole cc0_scratch5
abbrev outM : Memref sig .tc .vmem S2x256x512 .f32 := Memref.whole cc0_stg5_0

theorem inbC (j : Fin 4) : ∀ a, (![j.val, 0, 0, 0] : Fin 4 → ℕ) a + S1x8x64x64.size a ≤ S4x8x64x64.size a := by revert j; decide
theorem inbS (j : Fin 4) : ∀ a, (![j.val, 0, 0] : Fin 3 → ℕ) a + S1x8x64.size a ≤ S4x8x64.size a := by revert j; decide
theorem inbG (j : Fin 4) : ∀ a, (![j.val, 0, 0, 0] : Fin 4 → ℕ) a + S1x2x64x256.size a ≤ S4x2x64x256.size a := by revert j; decide
theorem inbO (j : Fin 4) : ∀ a, (![0, 64 * j.val, 0] : Fin 3 → ℕ) a + S2x64x512.size a ≤ S2x256x512.size a := by revert j; decide

abbrev rectC (j : Fin 4) : Rect S4x8x64x64 := Rect.unit (s := S4x8x64x64) ![j.val, 0, 0, 0] S1x8x64x64.size (inbC j)
abbrev rectS (j : Fin 4) : Rect S4x8x64 := Rect.unit (s := S4x8x64) ![j.val, 0, 0] S1x8x64.size (inbS j)
abbrev rectG (j : Fin 4) : Rect S4x2x64x256 := Rect.unit (s := S4x2x64x256) ![j.val, 0, 0, 0] S1x2x64x256.size (inbG j)
abbrev rectO (j : Fin 4) : Rect S2x256x512 := Rect.unit (s := S2x256x512) ![0, 64 * j.val, 0] S2x64x512.size (inbO j)

/-- Slot `j` of a buffer of four contexts. -/
abbrev slotC (M : Memref sig .tc .vmem S4x8x64x64 .bf16) (j : Fin 4) : Memref sig .tc .vmem S1x8x64x64 .bf16 := M.slice (rectC j) (fun _ => rfl)
/-- Slot `j` of a buffer of four rows of sums. -/
abbrev slotS (M : Memref sig .tc .vmem S4x8x64 .f32) (j : Fin 4) : Memref sig .tc .vmem S1x8x64 .f32 := M.slice (rectS j) (fun _ => rfl)
/-- Slot `j` of the gather buffer. -/
abbrev slotG (j : Fin 4) : Memref sig .tc .vmem S1x2x64x256 .bf16 := gath.slice (rectG j) (fun _ => rfl)
/-- Query rows `64 j … 64 j + 63` of the result. -/
abbrev slotO (j : Fin 4) : Memref sig .tc .vmem S2x64x512 .f32 := outM.slice (rectO j) (fun _ => rfl)

/-! ## Semaphores -/

abbrev barS : Sem sig := (SemArray.scalar (sig.barrier 0 rfl) : Sems sig S_).sem
/-- Transfer semaphore `j` of array `f`: 0, 1 the sends of contexts and sums; 2, 3 their receives; 4, 5 the
    gather's sends and receives. -/
def xsem (f : Fin 6) (j : Fin 4) : DmaSem sig := ⟨6 + 4 * f.val + j.val, by have := f.2; have := j.2; show _ < 30; omega⟩

abbrev barCell (c : Dev nD) : GSem nD τ sig := ((c : Thread nD τ), .reg barS)
abbrev xCell (c : Dev nD) (f : Fin 6) (j : Fin 4) : GSem nD τ sig := ((c : Thread nD τ), .dma (xsem f j))

theorem xsem_inj : ∀ f j f' j', xsem f j = xsem f' j' → f = f' ∧ j = j' := by decide

/-- Which transfer semaphore a number names. -/
def decSem (q : DmaSem sig) : Option (Fin 6 × Fin 4) :=
  if h : 6 ≤ q.val then
    some (⟨(q.val - 6) / 4, by have h2 : q.val < 30 := q.2; omega⟩, ⟨(q.val - 6) % 4, Nat.mod_lt _ (by decide)⟩)
  else none
theorem decSem_xsem : ∀ f j, decSem (xsem f j) = some (f, j) := by decide

/-- The four semaphores of an array, as the program addresses them. -/
theorem sem_at : ∀ (f : Fin 6) (j : Fin 4) (h : 6 + 4 * f.val + S4.numel ≤ 30)
    (hb : ∀ a, (![j.val] : Fin 1 → ℕ) a + S1.size a ≤ S4.size a),
    (((SemArray.consecutive (n := 30) (6 + 4 * f.val) S4 h).slice (Rect.unit (s := S4) ![j.val] S1.size hb)).squeeze S_ squeezes_S1_S_).sem
      = xsem f j := by
  decide

/-! ## Contents -/

def aX (c : Dev nD) : FVec F S2x256x512 .f32 := iblk m c 0 t0_0
def aQ (c : Dev nD) : FVec F S512x256 .f32 := iblk m c 1 t0_0
def aK (c : Dev nD) : FVec F S2x256x4x64 .f32 := iblk m c 2 t0_0
def aV (c : Dev nD) : FVec F S2x256x4x64 .f32 := iblk m c 3 t0_0
def aO (c : Dev nD) : FVec F S256x512 .f32 := iblk m c 4 t0_0

/-- Device `c`'s number as the kernel computes it. -/
def devW (c : Dev nD) : BitVec 32 := Scalar.remsi (Scalar.divsi (Dev.word c) 1#32) 4#32

def qV (c : Dev nD) : FVec F S8x256x64 .bf16 := k0_pay37 (aX m c) (aQ m c)
def kV (c : Dev nD) : FVec F S8x256x64 .bf16 := k0_pay39 (k0_pay38 (aK m c))
def vV (c : Dev nD) : FVec F S8x256x64 .bf16 := k0_pay40 (aV m c)
def kcol (c : Dev nD) : IVec S128x256 32 := k0_pay41 (devW c)
def qrow : IVec S128x256 32 := k0_pay44 (iota .tc S128x256 32 [0] iota_S128x256_d0_w32) 64#32 k0_pay42 k0_pay43 0#32

/-- Device `c`'s partial context for device `j`'s query rows, as it is laid down for sending. -/
def cV (c j : Dev nD) : FVec F S1x8x64x64 .bf16 :=
  match j with
  | 0 => k0_pay4 (qV m c) (kV m c) (vV m c) (kcol c) qrow
  | 1 => k0_pay6 (k0_pay3 (qV m c) (kV m c) (vV m c) (kcol c) qrow)
  | 2 => k0_pay22 (qV m c) (kV m c) (vV m c) (kcol c) qrow
  | 3 => k0_pay24 (k0_pay21 (qV m c) (kV m c) (vV m c) (kcol c) qrow)
/-- Device `c`'s partial row sums for device `j`'s query rows. -/
def sV (c j : Dev nD) : FVec F S1x8x64 .f32 :=
  match j with
  | 0 => k0_pay5 (k0_pay2 (qV m c) (kV m c) (kcol c) qrow)
  | 1 => k0_pay7 (k0_pay2 (qV m c) (kV m c) (kcol c) qrow)
  | 2 => k0_pay23 (k0_pay20 (qV m c) (kV m c) (kcol c) qrow)
  | 3 => k0_pay25 (k0_pay20 (qV m c) (kV m c) (kcol c) qrow)

/-- Device `c`'s row sums over all keys. -/
def denV (c : Dev nD) : FVec F S8x64 .f32 := k0_pay50 (sV m 0 c) (sV m 1 c) (sV m 2 c) (sV m 3 c)
/-- Device `c`'s context rows, before and after the cast for sending. -/
def ctx32 (c : Dev nD) : FVec F S2x64x256 .f32 := k0_pay52 (denV m c) (k0_pay51 (cV m 0 c)) (cV m 1 c) (cV m 2 c) (cV m 3 c)
def ctx16 (c : Dev nD) : FVec F S2x64x256 .bf16 := k0_pay53 (denV m c) (k0_pay51 (cV m 0 c)) (cV m 1 c) (cV m 2 c) (cV m 3 c)
/-- The same laid out as a gather slot. -/
def gV (c : Dev nD) : FVec F S1x2x64x256 .bf16 :=
  fun y => ctx16 m c ((Shape.reshapeEquiv squeezes_S1x2x64x256_S2x64x256.numel_eq).symm y)

/-- Device `c`'s block `j` of the result: its own rows from its context before the cast, the others' from theirs. -/
def outSl (c j : Dev nD) : FVec F S2x64x512 .f32 :=
  if j = c then k0_pay54 (k0_pay49 (aO m c)) (ctx32 m c) else k0_pay55 (k0_pay49 (aO m c)) (gV m j)

/-! ## What each arrival hands over -/

abbrev NC : ℕ := (slotC inC 0).view.dmaCredit
abbrev NS : ℕ := (slotS inS 0).view.dmaCredit
abbrev NG : ℕ := (slotG 0).view.dmaCredit

/-- The three shares of the staged context, one for each copy; the fourth place repeats the third. -/
def shr (t : Fin 4) : PosShare TreeShare :=
  match t with
  | 0 => fullShare.left
  | 1 => fullShare.right.left
  | _ => fullShare.right.right

/-- The places of device `d`'s memory that device `c` writes. -/
def barPay (d c : Dev nD) : sProp 𝕄 :=
  iprop((∃ X, owns (d : Thread nD τ) (slotC inC c) fullShare X) ∗ (∃ X, owns (d : Thread nD τ) (slotS inS c) fullShare X)
    ∗ (∃ X, owns (d : Thread nD τ) (slotG (gap d c)) fullShare X))

/-- What the completion of transfer semaphore `j` of array `f` hands device `c`. -/
def xferPay (c : Dev nD) (f : Fin 6) (j : Fin 4) : sProp 𝕄 :=
  match f with
  | 0 => owns (c : Thread nD τ) (slotC payC j) fullShare (cV m c j)
  | 1 => owns (c : Thread nD τ) (slotS payS j) fullShare (sV m c j)
  | 2 => owns (c : Thread nD τ) (slotC inC j) fullShare (cV m j c)
  | 3 => owns (c : Thread nD τ) (slotS inS j) fullShare (sV m j c)
  | 4 => owns (c : Thread nD τ) stage (shr j) (ctx16 m c)
  | 5 => owns (c : Thread nD τ) (slotG j) fullShare (gV m (bwd c j))

omit [FloatOps F] in
instance barPay_storable (d c : Dev nD) : BI.Storable (upEmb : UEmb _ 𝕄) (barPay (F := F) d c) := by unfold barPay; infer_instance
instance xferPay_storable (c : Dev nD) (f : Fin 6) (j : Fin 4) : BI.Storable (upEmb : UEmb _ 𝕄) (xferPay m c f j) := by
  unfold xferPay; split <;> infer_instance

/-- The units that complete a transfer of array `f`. -/
def amt (f : Fin 6) : ℕ := match f with | 0 => NC | 1 => NS | 2 => NC | 3 => NS | 4 => NG | 5 => NG
theorem amt_pos (f : Fin 6) : 0 < amt f := by
  unfold amt; split <;> exact View.dmaCredit_pos _ (by decide)

/-- Semaphore `j` of array `f` is used by device `c`: no device sends to itself in the first exchange, and the gather
    has three copies. -/
def used (c : Dev nD) (f : Fin 6) (j : Fin 4) : Prop := if f.val < 4 then j ≠ c else j ≠ 3
instance (c : Dev nD) (f : Fin 6) (j : Fin 4) : Decidable (used c f j) := by unfold used; infer_instance

/-- The transfers' schedule: everything happens once. -/
def Rd : Rounds.Schedule (GSem nD τ sig) (Dev nD) 𝕄 where
  duties g r :=
    if r = 0 ∧ g.1.2 = .tc then
      match g.2 with
      | .reg _ => Finset.univ.filter (· ≠ g.1.1)
      | .dma q => match decSem q with
        | some (f, j) => if used g.1.1 f j then {0} else ∅
        | none => ∅
    else ∅
  unitless _ := False
  amount g _ _ := match g.2 with
    | .reg _ => 1
    | .dma q => match decSem q with
      | some (f, _) => amt f
      | none => 1
  payload g _ d := match g.2 with
    | .reg _ => barPay d g.1.1
    | .dma q => match decSem q with
      | some (f, j) => xferPay m g.1.1 f j
      | none => iprop(emp)
  amount_pos g _ _ _ := by
    split
    · exact Nat.one_pos
    · split
      · exact amt_pos _
      · exact Nat.one_pos

instance Rd_payload_storable (g : GSem nD τ sig) (r : ℕ) (d : Dev nD) :
    BI.Storable (upEmb : UEmb _ 𝕄) ((Rd m).payload g r d) := by
  show BI.Storable upEmb (match g.2 with
    | .reg _ => barPay d g.1.1
    | .dma q => match decSem q with
      | some (f, j) => xferPay m g.1.1 f j
      | none => iprop(emp))
  (repeat' split) <;> infer_instance

section Sched
variable (c : Dev nD) (f : Fin 6) (j : Fin 4)

theorem duties_bar : (Rd m).duties (barCell c) 0 = Finset.univ.filter (· ≠ c) := by dsimp only [Rd]; exact if_pos ⟨rfl, rfl⟩
theorem duties_x (h : used c f j) : (Rd m).duties (xCell c f j) 0 = {0} := by
  dsimp only [Rd]; rw [if_pos ⟨rfl, rfl⟩, decSem_xsem]; exact if_pos h
theorem duties_unused (h : ¬ used c f j) (r : ℕ) : (Rd m).duties (xCell c f j) r = ∅ := by
  dsimp only [Rd]; split
  · rw [decSem_xsem]; exact if_neg h
  · rfl
theorem duties_later (g : GSem nD τ sig) : ∀ r, 1 ≤ r → (Rd m).duties g r = ∅ :=
  fun r hr => by dsimp only [Rd]; rw [if_neg fun h => by omega]

theorem amount_bar (d : Dev nD) : (Rd m).amount (barCell c) 0 d = 1 := rfl
theorem amount_x (d : Dev nD) : (Rd m).amount (xCell c f j) 0 d = amt f := by dsimp only [Rd]; rw [decSem_xsem]
theorem payload_bar (d : Dev nD) : (Rd m).payload (barCell c) 0 d = barPay d c := rfl
theorem payload_x (d : Dev nD) : (Rd m).payload (xCell c f j) 0 d = xferPay m c f j := by dsimp only [Rd]; rw [decSem_xsem]

theorem expect_bar : (Rd m).expect (barCell c) 0 = 3 := by
  unfold Schedule.expect Schedule.amountOf
  rw [duties_bar, Finset.sum_congr rfl fun d _ => amount_bar m c d, Finset.sum_const, smul_eq_mul, mul_one]
  revert c; decide
theorem expect_x (h : used c f j) : (Rd m).expect (xCell c f j) 0 = amt f := by
  unfold Schedule.expect Schedule.amountOf; rw [duties_x m c f j h, Finset.sum_singleton, amount_x]

/-- The rest of a transfer's round, nothing taken: what its completion hands over. -/
theorem rest_x (h : used c f j) :
    bigSep ((Rd m).duties (xCell c f j) 0 \ ∅) (fun d => (Rd m).payload (xCell c f j) 0 d) = xferPay m c f j := by
  rw [Finset.sdiff_empty, duties_x m c f j h, bigSep_singleton, payload_x]
/-- The rest of the barrier's round: what every other device hands over. -/
theorem rest_bar :
    bigSep ((Rd m).duties (barCell c) 0 \ ∅) (fun d => (Rd m).payload (barCell c) 0 d)
      = bigSep (Finset.univ.filter (· ≠ c)) (fun d => barPay d c) := by
  rw [Finset.sdiff_empty, duties_bar]; rfl
end Sched

/-! ## What each device owes; the levels -/

/-- The unit that device `c` owes device `d`'s barrier. -/
def owB (c d : Dev nD) : CellTallies nD τ sig Unit := tallyAt (barCell d) () (if c = d then 0 else 1)
/-- The two transfers that device `c` owes device `d` in the first exchange. -/
def owX (c d : Dev nD) : CellTallies nD τ sig Unit :=
  tallyAt (xCell d 3 c) () (if c = d then 0 else NS) + tallyAt (xCell d 2 c) () (if c = d then 0 else NC)
/-- The gather transfer that device `c` owes the device `t + 1` places on. -/
def owG (c : Dev nD) (t : Fin 4) : CellTallies nD τ sig Unit := tallyAt (xCell (fwd c t) 5 t) () (if t = 3 then 0 else NG)

/-- What device `c` owes with the barrier signals to `B`, the exchanges with `S` and the gather copies `G` ahead. -/
def owe (c : Dev nD) (B S : List (Dev nD)) (G : List (Fin 4)) : CellTallies nD τ sig Unit :=
  (B.map (owB c)).sum + ((S.map (owX c)).sum + (G.map (owG c)).sum)

def O₀ (c : Dev nD) : CellTallies nD τ sig Unit := owe c [0, 1, 2, 3] [0, 1, 2, 3] [0, 2, 1]

theorem owe_B (c d : Dev nD) (B S : List (Dev nD)) (G : List (Fin 4)) : owe c (d :: B) S G = owe c B S G + owB c d := by
  unfold owe; rw [List.map_cons, List.sum_cons]; ac_rfl
theorem owe_S (c d : Dev nD) (S : List (Dev nD)) (G : List (Fin 4)) : owe c [] (d :: S) G = owe c [] S G + owX c d := by
  unfold owe; rw [List.map_cons, List.sum_cons]; ac_rfl
theorem owe_G (c : Dev nD) (t : Fin 4) (G : List (Fin 4)) : owe c [] [] (t :: G) = owe c [] [] G + owG c t := by
  unfold owe; rw [List.map_cons, List.sum_cons]; ac_rfl
theorem owe_nil (c : Dev nD) : owe c [] [] [] = 0 := by unfold owe; simp
/-- The exchanges may be listed with the second half of the queries first. -/
theorem owe_swap (c : Dev nD) (G : List (Fin 4)) : owe c [] [0, 1, 2, 3] G = owe c [] [2, 3, 0, 1] G := by
  unfold owe; simp only [List.map_cons, List.sum_cons, List.map_nil, List.sum_nil]; ac_rfl
theorem owB_self (c : Dev nD) : owB c c = 0 := by unfold owB; rw [if_pos rfl]; exact tallyAt_zero _ _
theorem owX_self (c : Dev nD) : owX c c = 0 := by unfold owX; rw [if_pos rfl, if_pos rfl, tallyAt_zero, tallyAt_zero, add_zero]

def L (g : GSem nD τ sig) : Finset Unit := if g.1.2 = .tc then {()} else ∅
/-- Levels: the staging and send semaphores lowest, then the barrier, the first exchange, the gather. -/
def lv (g : GSem nD τ sig) (_ : Unit) : ℕ := match g.2 with
  | .reg _ => 1
  | .dma q => if q.val < 14 then 0 else if q.val < 22 then 2 else if q.val < 26 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_x (c : Dev nD) : ∀ (f : Fin 6) (j : Fin 4), lv (xCell c f j) () = match f with | 0 => 0 | 1 => 0 | 2 => 2 | 3 => 2 | 4 => 0 | 5 => 3 := by
  show ∀ (f : Fin 6) (j : Fin 4), (if (xsem f j).val < 14 then 0 else if (xsem f j).val < 22 then 2 else if (xsem f j).val < 26 then 0 else 3) = _
  decide

theorem tallyAt_pos {g₀ g : GSem nD τ sig} {u : Unit} {k : ℕ} (h : 0 < tallyAt g₀ () k g u) : g = g₀ := by
  rw [tallyAt_apply] at h
  by_contra hn
  rw [if_neg fun h' => hn h'.1] at h
  exact Nat.lt_irrefl 0 h

theorem sum_pos' {α : Type} (φ : α → CellTallies nD τ sig Unit) (l : List α) {g : GSem nD τ sig} {u : Unit}
    (h : 0 < (l.map φ).sum g u) : ∃ a ∈ l, 0 < φ a g u := by
  induction l with
  | nil => simp at h
  | cons a l ih =>
    rw [List.map_cons, List.sum_cons, Pi.add_apply, Finsupp.add_apply] at h
    rcases Nat.add_pos_iff_pos_or_pos.mp h with h | h
    · exact ⟨a, List.mem_cons_self, h⟩
    · obtain ⟨b, hb, h⟩ := ih h; exact ⟨b, List.mem_cons_of_mem _ hb, h⟩

/-- Whatever device `c` still owes belongs to a barrier, a receive of the first exchange or a gather receive. -/
theorem owe_pos {c : Dev nD} {B S : List (Dev nD)} {G : List (Fin 4)} {g : GSem nD τ sig} {u : Unit} (h : 0 < owe c B S G g u) :
    (∃ d ∈ B, g = barCell d) ∨ (∃ d ∈ S, g = xCell d 3 c ∨ g = xCell d 2 c) ∨ (∃ t ∈ G, g = xCell (fwd c t) 5 t) := by
  unfold owe at h
  rw [Pi.add_apply, Finsupp.add_apply, Pi.add_apply, Finsupp.add_apply] at h
  rcases Nat.add_pos_iff_pos_or_pos.mp h with h | h
  · obtain ⟨d, hd, h⟩ := sum_pos' _ _ h; exact .inl ⟨d, hd, tallyAt_pos h⟩
  rcases Nat.add_pos_iff_pos_or_pos.mp h with h | h
  · obtain ⟨d, hd, h⟩ := sum_pos' _ _ h
    unfold owX at h
    rw [Pi.add_apply, Finsupp.add_apply] at h
    rcases Nat.add_pos_iff_pos_or_pos.mp h with h | h
    · exact .inr (.inl ⟨d, hd, .inl (tallyAt_pos h)⟩)
    · exact .inr (.inl ⟨d, hd, .inr (tallyAt_pos h)⟩)
  · obtain ⟨t, ht, h⟩ := sum_pos' _ _ h; exact .inr (.inr ⟨t, ht, tallyAt_pos h⟩)

/-- A device may wait on a semaphore whose level lies below those of all that it owes. -/
theorem mayWait_owe (c : Dev nD) (sm : SemLoc sig) (B S : List (Dev nD)) (G : List (Fin 4)) (n : ℕ)
    (hsm : lv ((c : Thread nD τ), sm) () ≤ n) (hB : B ≠ [] → n < 1) (hS : S ≠ [] → n < 2) (hG : n < 3) :
    (levAts L lv : sProp 𝕄) ⊢ MayWait (c : Thread nD τ) sm () (owe c B S G) :=
  MayOwe.of_cut (L := L) (lev := lv) n (fun p hp => by rw [Finset.mem_singleton.mp hp, L_tc]; exact Finset.mem_singleton_self _)
    (fun g u hg => by
      rcases owe_pos hg with ⟨d, _, rfl⟩ | ⟨d, _, rfl | rfl⟩ | ⟨t, _, rfl⟩ <;> exact Finset.mem_singleton_self _)
    (fun p hp => by rw [Finset.mem_singleton.mp hp]; exact hsm)
    (fun g u hg => by
      rcases owe_pos hg with ⟨d, hd, rfl⟩ | ⟨d, hd, rfl | rfl⟩ | ⟨t, _, rfl⟩
      · exact hB (List.ne_nil_of_mem hd)
      · exact lt_of_lt_of_eq (hS (List.ne_nil_of_mem hd)) (lv_x d 3 c).symm
      · exact lt_of_lt_of_eq (hS (List.ne_nil_of_mem hd)) (lv_x d 2 c).symm
      · exact lt_of_lt_of_eq hG (lv_x _ 5 t).symm)

end Cert.KernelIdeal.Hand

end
-- ==== Proof.KernelIdeal.Steps.lean ====
/-
The kernel's single steps and recurring groups of steps: loads and stores of slots, barrier signals, the pair of
copies of the first exchange, the gather copies, and the waits that end a transfer.
-/
module

public import proofs.«01_k».proof.Proof.KernelIdeal.Protocol

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- `Runs c p Q`: on device `c` the program `p` runs safely and ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Option (Fin 6 × Fin 4) → ℕ)

/-- The semaphores of device `c`: its barrier, or one of its transfer semaphores. -/
def kcell (ck : Dev nD × Option (Fin 6 × Fin 4)) : GSem nD τ sig :=
  match ck.2 with
  | none => barCell ck.1
  | some p => xCell ck.1 p.1 p.2

/-- The standing facts: every semaphore follows the schedule and has its first round open. -/
def recs : sProp 𝕄 := bigSep Finset.univ fun ck => iprop(cellInv ER (Rd m) (K ck) (kcell ck) ∗ reached ER (kcell ck) 0)

instance recs_persistent : BI.Persistent (recs m K) := by unfold recs; infer_instance

theorem recs_bar (c : Dev nD) : recs m K ⊢ iprop(cellInv ER (Rd m) (K (c, none)) (barCell c) ∗ reached ER (barCell c) 0) :=
  bigSep_elim (Φ := fun ck => iprop(cellInv ER (Rd m) (K ck) (kcell ck) ∗ reached ER (kcell ck) 0)) (Finset.mem_univ (c, none))
theorem recs_x (c : Dev nD) (f : Fin 6) (j : Fin 4) :
    recs m K ⊢ iprop(cellInv ER (Rd m) (K (c, some (f, j))) (xCell c f j) ∗ reached ER (xCell c f j) 0) :=
  bigSep_elim (Φ := fun ck => iprop(cellInv ER (Rd m) (K ck) (kcell ck) ∗ reached ER (kcell ck) 0)) (Finset.mem_univ (c, some (f, j)))

/-- Device `c` owes `O`, whatever it has waited for. -/
def ow (c : Dev nD) (O : CellTallies nD τ sig Unit) : sProp 𝕄 := iprop(∃ W, owes (c : Thread nD τ) O W)

/-! ## Sequencing -/

theorem runs_bind (c : Dev nD) {α β : Type} {p : Prog (TpuEff nD τ sig (Elt F) Λ₀ .tc) α}
    {k : α → Prog (TpuEff nD τ sig (Elt F) Λ₀ .tc) β} {P : sProp 𝕄} {R : α → sProp 𝕄} {Q : β → sProp 𝕄}
    (h : P ⊢ Runs c p R) : P ⊢ iprop((∀ r, R r -∗ Runs c (k r) Q) -∗ Runs c (p >>= k) Q) := by
  unfold Runs
  rw [wp_bind]
  iintro HP Hk
  ihave Hp := h $$ HP
  iapply wp_wand $$ Hp
  iintro %r HR
  iapply Hk $$ HR

/-! ## Loads and stores -/

section Access
variable (c : Dev nD) {s : Shape} {e : EltTy} (M : Memref sig .tc .vmem s e)

theorem load_rect {α : Type} {Q : α → sProp 𝕄} (r : Rect s) (hr : ∀ a, r.stride a = 1) {hl} {k : (r.shape.Idx → Elt F e) → Prog (TpuEff nD τ sig (Elt F) Λ₀ .tc) α}
    {q : PosShare TreeShare} {X : r.shape.Idx → Elt F e} :
    (owns (c : Thread nD τ) (M.slice r hr) q X : sProp 𝕄)
      ⊢ iprop((owns (c : Thread nD τ) (M.slice r hr) q X -∗ Runs c (k X) Q) -∗ Runs c (.op (.load M r.toLoadRect hl) k) Q) := by
  unfold owns
  iintro ⟨%f, %hf, H⟩ Hk
  subst hf
  iapply (wp_load_rect 𝒱₀ (c : Thread nD τ) none Set.univ (m := M) (r := r) (Finset.Subset.refl _)) $$ H
  iintro H
  iapply Hk
  iexists f
  isplitr; · (ipureintro; rfl)
  iexact H

theorem store_rect {α : Type} {Q : α → sProp 𝕄} (r : Rect s) (hr : ∀ a, r.stride a = 1) {w : r.shape.Idx → Elt F e} {hx hm}
    {k : PUnit → Prog (TpuEff nD τ sig (Elt F) Λ₀ .tc) α} :
    (iprop(∃ X, owns (c : Thread nD τ) (M.slice r hr) fullShare X) : sProp 𝕄)
      ⊢ iprop((owns (c : Thread nD τ) (M.slice r hr) fullShare w -∗ Runs c (k ⟨⟩) Q)
          -∗ Runs c (.op (.store M r w Finset.univ hx hm) k) Q) := by
  unfold owns
  iintro ⟨%X, %f, %hf, H⟩ Hk
  iapply (wp_store 𝒱₀ (c : Thread nD τ) none Set.univ (m := M) (r := r) (Mk := Finset.univ) (S := (M.slice r hr).view.set) (Finset.Subset.refl _)) $$ H
  iintro H
  iapply Hk
  iexists ((M.access r).write (Elt F) f w Finset.univ)
  isplitr
  · ipureintro; exact View.read_write_univ ..
  iexact H

variable {off off' : Fin s.rank → ℕ} (ho : off = off') {size : Fin s.rank → ℕ} {hb : ∀ a, off a + size a ≤ s.size a}
  {hb' : ∀ a, off' a + size a ≤ s.size a}
include ho

/-- A load of the block at `off`, known as the block at `off'`. -/
theorem load_at {α : Type} {Q : α → sProp 𝕄} {hr hl} {k : ((Rect.unit (s := s) off size hb).shape.Idx → Elt F e) → Prog (TpuEff nD τ sig (Elt F) Λ₀ .tc) α}
    {q : PosShare TreeShare} {X : (Rect.unit (s := s) off' size hb').shape.Idx → Elt F e} :
    (owns (c : Thread nD τ) (M.slice (Rect.unit off' size hb') hr) q X : sProp 𝕄)
      ⊢ iprop((owns (c : Thread nD τ) (M.slice (Rect.unit off' size hb') hr) q X -∗ Runs c (k X) Q)
          -∗ Runs c (.op (.load M (Rect.unit off size hb).toLoadRect hl) k) Q) := by
  subst ho; exact load_rect c M _ _

/-- A block read and then overwritten without regard to what was read. -/
theorem overwrite_at {α : Type} {Q : α → sProp 𝕄} {hr hl} {w : (Rect.unit (s := s) off size hb).shape.Idx → Elt F e} {hx hm}
    {k : PUnit → Prog (TpuEff nD τ sig (Elt F) Λ₀ .tc) α} :
    (iprop(∃ X, owns (c : Thread nD τ) (M.slice (Rect.unit off' size hb') hr) fullShare X) : sProp 𝕄)
      ⊢ iprop((owns (c : Thread nD τ) (M.slice (Rect.unit off' size hb') hr) fullShare w -∗ Runs c (k ⟨⟩) Q)
          -∗ Runs c (.op (.load M (Rect.unit off size hb).toLoadRect hl)
              (fun _ => .op (.store M (Rect.unit off size hb) w Finset.univ hx hm) k)) Q) := by
  subst ho
  iintro ⟨%X, H⟩ Hk
  iapply (load_rect c M _ _) $$ H
  iintro H
  iapply (store_rect c M _ hr) $$ [H]
  · iexists X; iexact H
  iexact Hk

omit ho in
theorem squeeze_at (ho : off = off') {hr hr'} {s' : Shape} (hs : (Rect.unit (s := s) off size hb).shape.Squeezes s') :
    (M.slice (Rect.unit off size hb) hr).squeeze s' hs = (M.slice (Rect.unit off' size hb') hr').squeeze s' hs := by
  subst ho; rfl

omit ho off off' size hb hb' in
/-- A memref with its unit axes dropped is owned exactly as the memref is. -/
theorem owns_squeeze {s' : Shape} (h : s.Squeezes s') (q : PosShare TreeShare) (X : s.Idx → Elt F e) :
    (owns (c : Thread nD τ) (M.squeeze s' h) q (fun y => X (Shape.reshapeEquiv h.numel_eq y)) : sProp 𝕄)
      = owns (c : Thread nD τ) M q X := by
  unfold owns
  rw [Memref.view_squeeze, View.set_reshape]
  congr 1; funext f
  congr 2
  refine propext ⟨fun h' => funext fun y => ?_, fun h' => ?_⟩
  · have := congrFun h' ((Shape.reshapeEquiv h.numel_eq).symm y)
    rw [Equiv.apply_symm_apply] at this
    rw [← this]
    show _ = M.view.read _ f (Shape.reshapeEquiv h.numel_eq _)
    rw [Equiv.apply_symm_apply]
  · subst h'; rfl

omit ho off off' size hb hb' in
theorem owns_squeeze_ex {s' : Shape} {h : s.Squeezes s'} {q : PosShare TreeShare} {X : s.Idx → Elt F e} :
    (owns (c : Thread nD τ) M q X : sProp 𝕄) ⊢ iprop(∃ Y, owns (c : Thread nD τ) (M.squeeze s' h) q Y) := by
  rw [← owns_squeeze c M h q X]
  iintro H
  iexists _; iexact H
end Access

/-! ## The barrier -/

section Barrier
variable (c d : Dev nD)

/-- One barrier signal: device `c` hands device `d` the places that `d` will write. -/
theorem signal_step {α : Type} {Q : α → sProp 𝕄} {n : Dev nD} (hn : n = d) (hcd : c ≠ d) {k : PUnit → Prog (TpuEff nD τ sig (Elt F) Λ₀ .tc) α} {z : ℤ} (hz : z = 1) (O : CellTallies nD τ sig Unit) :
    iprop(recs m K ∗ ow c (O + owB c d) ∗ dutyTok ER (barCell d) 0 c ∗ barPay c d)
      ⊢ iprop((ow c O -∗ Runs c (k ⟨⟩) Q) -∗ Runs c (.op (.semSignal (Dev.tc n : Thread nD τ) barS z) k) Q) := by
  subst hn hz
  unfold ow owB
  rw [if_neg hcd]
  iintro ⟨#HR, ⟨%W, HO⟩, Ht, Hp⟩ Hk
  ihave ⟨HI, Hr⟩ := (recs_bar m K n) $$ HR
  iapply (Rounds.wp_signal 𝒱₀ ER (Rd m) (c : Thread nD τ) none (dst := (n : Thread nD τ)) (κ := K (n, none)) (d := c) (k' := 1)
      (by rw [duties_bar]; exact Finset.mem_filter.mpr ⟨Finset.mem_univ _, hcd⟩) (amount_bar m n c) () O rfl) $$ [HI Hr HO Ht Hp]
  · isplitl [HI]; · iexact HI
    isplitl [HO]; · iexact HO
    isplitl [Ht]; · iexact Ht
    isplitl [Hp]; · rw [payload_bar]; iexact Hp
    iexact Hr
  iintro HO
  iapply Hk
  iexists W; iexact HO

/-- The barrier wait: every other device has handed over the places that `c` will write. -/
theorem barrier_step {α : Type} {Q : α → sProp 𝕄} {k : PUnit → Prog (TpuEff nD τ sig (Elt F) Λ₀ .tc) α} {z : ℤ} (hz : z = 3) (S : List (Dev nD)) (G : List (Fin 4)) :
    iprop(recs m K ∗ levAts L lv ∗ cred (tallyAt (barCell c) () 3) ∗ ow c (owe c [] S G) ∗ atPos ER (barCell c) 0 ∅ 0)
      ⊢ iprop((ow c (owe c [] S G) ∗ semVal (barCell c) 0 ∗ bigSep (Finset.univ.filter (· ≠ c)) (fun d => barPay d c)
            -∗ Runs c (k ⟨⟩) Q)
          -∗ Runs c (.op (.semWait barS z) k) Q) := by
  subst hz
  unfold ow
  iintro ⟨#HR, #HL, Hc, ⟨%W, HO⟩, Ha⟩ Hk
  ihave ⟨#HI, -⟩ := (recs_bar m K c) $$ HR
  iapply (Rounds.wp_wait_rest_token 𝒱₀ ER (Rd m) (c : Thread nD τ) none (κ := K (c, none)) (k' := 3)
      (wpE_semWait_eq 𝒱₀ (c : Thread nD τ) none Set.univ) (Set.mem_univ _) () (O := owe c [] S G) (W := W) (R := 0) (m := 0) (T := ∅)
      (by rw [Nat.zero_add, expect_bar])) $$ [Hc HO Ha]
  · isplitr; · iexact HI
    isplitl [Hc]; · iexact Hc
    isplitl [HO]; · iexact HO
    isplitr; · iapply (mayWait_owe c (.reg barS) [] S G 1 (by rw [lv_bar]) (fun h => absurd rfl h) (fun _ => by decide) (by decide)) $$ HL
    iexact Ha
  iintro ⟨HO, Ha, -, Hp⟩
  imod (Rounds.cell_close ER (Rd m) (Set.mem_univ (K (c, none))) (fun h => h) (R := 0 + 1) (duties_later m (barCell c))) $$ [Ha] with Hz
  · isplitr; · iexact HI
    iexact Ha
  ihave Hp := (Entails.of_eq (rest_bar m c)) $$ Hp
  iapply Hk
  isplitl [HO]; · (iexists _; iexact HO)
  isplitl [Hz]; · iexact Hz
  iexact Hp
end Barrier

/-! ## Transfers -/

theorem lv_le : ∀ f : Fin 6, f ≠ 5 → (match f with | 0 => 0 | 1 => 0 | 2 => 2 | 3 => 2 | 4 => 0 | 5 => 3 : ℕ) ≤ 2 := by decide

section Xfer
variable (c : Dev nD)

/-- A wait for a transfer: its payload comes, and the semaphore is done with. -/
theorem wait_step {α : Type} {Q : α → sProp 𝕄} (f : Fin 6) (j : Fin 4) (hu : used c f j) {q : DmaSem sig} (hq : q = xsem f j)
    {s s' : Shape} {e e' : EltTy} {src : Memref sig .tc .vmem s e} {dst : Memref sig .tc .vmem s' e'} {h₁ h₂}
    {k : PUnit → Prog (TpuEff nD τ sig (Elt F) Λ₀ .tc) α}
    (hN : dst.view.dmaCredit = amt f) (G : List (Fin 4)) (hG : f = 5 → G = []) :
    iprop(recs m K ∗ levAts L lv ∗ cred (tallyAt (xCell c f j) () (amt f)) ∗ ow c (owe c [] [] G) ∗ atPos ER (xCell c f j) 0 ∅ 0)
      ⊢ iprop((ow c (owe c [] [] G) ∗ semVal (xCell c f j) 0 ∗ xferPay m c f j -∗ Runs c (k ⟨⟩) Q)
          -∗ Runs c (.op (.waitDma2 q src dst h₁ h₂) k) Q) := by
  subst hq
  unfold ow
  iintro ⟨#HR, #HL, Hc, ⟨%W, HO⟩, Ha⟩ Hk
  ihave ⟨#HI, -⟩ := (recs_x m K c f j) $$ HR
  iapply (Rounds.wp_wait_rest_token 𝒱₀ ER (Rd m) (c : Thread nD τ) none (κ := K (c, some (f, j))) (k' := dst.view.dmaCredit)
      (wpE_waitDma2_eq 𝒱₀ (c : Thread nD τ) none Set.univ) (Set.mem_univ _) () (O := owe c [] [] G) (W := W) (R := 0) (m := 0) (T := ∅)
      (by rw [Nat.zero_add, expect_x m c f j hu, hN])) $$ [Hc HO Ha]
  · isplitr; · iexact HI
    isplitl [Hc]; · rw [hN]; iexact Hc
    isplitl [HO]; · iexact HO
    isplitr
    · by_cases h5 : f = 5
      · rw [hG h5, owe_nil, MayWait_zero]; iempintro
      · iapply (mayWait_owe c (.dma (xsem f j)) [] [] G 2 (by rw [lv_x]; exact lv_le f h5) (fun h => absurd rfl h)
          (fun h => absurd rfl h) (by decide)) $$ HL
    iexact Ha
  iintro ⟨HO, Ha, -, Hp⟩
  imod (Rounds.cell_close ER (Rd m) (Set.mem_univ (K (c, some (f, j)))) (fun h => h) (R := 0 + 1) (duties_later m (xCell c f j))) $$ [Ha] with Hz
  · isplitr; · iexact HI
    iexact Ha
  ihave Hp := (Entails.of_eq (rest_x m c f j hu)) $$ Hp
  iapply Hk
  isplitl [HO]; · (iexists _; iexact HO)
  isplitl [Hz]; · iexact Hz
  iexact Hp

/-- A semaphore that no transfer uses is done with from the start. -/
theorem close_unused (f : Fin 6) (j : Fin 4) (hu : ¬ used c f j) :
    iprop(recs m K ∗ atPos ER (xCell c f j) 0 ∅ 0) ⊢ iprop(|={Set.univ}=> semVal (xCell c f j) 0) := by
  iintro ⟨#HR, Ha⟩
  ihave ⟨#HI, -⟩ := (recs_x m K c f j) $$ HR
  iapply (Rounds.cell_close ER (Rd m) (Set.mem_univ (K (c, some (f, j)))) (fun h => h) (R := 0) (fun r _ => duties_unused m c f j hu r))
  isplitr; · iexact HI
  iexact Ha

/-- One copy to device `d`: its two completions are what the schedule says they are. -/
theorem send_step {α : Type} {Q : α → sProp 𝕄} (d : Dev nD) (f₁ f₂ : Fin 6) (j₁ j₂ : Fin 4) (hu₁ : used c f₁ j₁) (hu₂ : used d f₂ j₂) (ha : amt f₁ = amt f₂)
    {n : Dev nD} (hn : n = d) {qs qr : DmaSem sig} (hqs : qs = xsem f₁ j₁) (hqr : qr = xsem f₂ j₂)
    {s : Shape} {e : EltTy} {src dst src' dst' : Memref sig .tc .vmem s e} (hs : src = src') (hd : dst = dst')
    (hN : dst'.view.dmaCredit = amt f₂) {q : PosShare TreeShare} {X : s.Idx → Elt F e}
    (hp₁ : (owns (c : Thread nD τ) src' q X : sProp 𝕄) ⊢ xferPay m c f₁ j₁)
    (hp₂ : (owns (d : Thread nD τ) dst' fullShare X : sProp 𝕄) ⊢ xferPay m d f₂ j₂)
    {hsc h₁ h₂ h₃} {k : PUnit → Prog (TpuEff nD τ sig (Elt F) Λ₀ .tc) α} (O : CellTallies nD τ sig Unit) :
    iprop(recs m K ∗ owns (c : Thread nD τ) src' q X ∗ (∃ Y, owns (d : Thread nD τ) dst' fullShare Y)
        ∗ ow c (O + tallyAt (xCell d f₂ j₂) () (amt f₂)) ∗ dutyTok ER (xCell c f₁ j₁) 0 0 ∗ dutyTok ER (xCell d f₂ j₂) 0 0)
      ⊢ iprop((cred (tallyAt (xCell c f₁ j₁) () (amt f₁)) ∗ ow c O -∗ Runs c (k ⟨⟩) Q)
          -∗ Runs c (.op (.enqueueDma src (.remote (Dev.tc n : Thread nD τ) dst (.dma qs) hsc) (.dma qr) h₁ h₂ h₃) k) Q) := by
  subst hn hqs hqr hs hd
  unfold ow
  iintro ⟨#HR, Hs, ⟨%Y, Hd⟩, ⟨%W, HO⟩, Ht₁, Ht₂⟩ Hk
  ihave ⟨#HI₁, #Hr₁⟩ := (recs_x m K c f₁ j₁) $$ HR
  ihave ⟨#HI₂, #Hr₂⟩ := (recs_x m K n f₂ j₂) $$ HR
  unfold owns
  icases Hs with ⟨%fs, %hfs, Hs⟩
  icases Hd with ⟨%fd, %hfd, Hd⟩
  iapply (Rounds.wp_send_pointsTo 𝒱₀ ER (Rd m) (c : Thread nD τ) none (κ₁ := K (c, some (f₁, j₁))) (κ₂ := K (n, some (f₂, j₂)))
    (r₁ := 0) (r₂ := 0) (d₁ := 0) (d₂ := 0) (fs := fs) (fd := fd) (q := q)
    (by rw [duties_x m c f₁ j₁ hu₁]; exact Finset.mem_singleton_self _) (by rw [duties_x m n f₂ j₂ hu₂]; exact Finset.mem_singleton_self _)
    () () (amt f₂) (by rw [View.amount_dma]; exact hN) ((amount_x m c f₁ j₁ 0).trans ha) (amount_x m n f₂ j₂ 0) O rfl (W := W)
    (by rw [payload_x]; refine BI.Entails.trans ?_ hp₁; subst hfs; exact owns_intro _ _ _ _)
    (by
      rw [payload_x]; refine BI.Entails.trans ?_ hp₂; subst hfs
      refine (owns_intro _ _ _ _).trans (Entails.of_eq ?_)
      rw [View.read_write_univ])) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  rw [ha]
  isplitl [Hc]; · iexact Hc
  iexists W; iexact HO
end Xfer

end Cert.KernelIdeal.Hand

end
-- ==== Proof.KernelIdeal.Blocks.lean ====
/-
The kernel's conditional blocks: a barrier signal, the pair of copies to one device, the pair of waits for one device,
each done only when the device in question is another one.
-/
module

public import proofs.«01_k».proof.Proof.KernelIdeal.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

/-! ## Families over the four devices -/

abbrev four (Φ : Fin 4 → sProp 𝕄) : sProp 𝕄 := iprop(Φ 0 ∗ Φ 1 ∗ Φ 2 ∗ Φ 3)

omit [FloatOps F] in
theorem four_eq (Φ : Fin 4 → sProp 𝕄) : bigSep Finset.univ Φ = four Φ := by
  rw [bigSep_univ_eq_bigSepL [0, 1, 2, 3] (by decide) (by decide)]
  rfl

omit [FloatOps F] in
/-- One device's part of a family, and how to put it back changed. -/
theorem four_at (Φ Ψ : Fin 4 → sProp 𝕄) (c : Fin 4) (h : ∀ d, d ≠ c → Φ d ⊢ Ψ d) :
    four Φ ⊢ iprop(Φ c ∗ (Ψ c -∗ four Ψ)) := by
  rw [← four_eq, ← four_eq, bigSep_univ_at Φ c, bigSep_univ_at Ψ c]
  iintro ⟨Hc, Hr⟩
  isplitl [Hc]; · iexact Hc
  iintro Hc
  isplitl [Hc]; · iexact Hc
  have hr : (bigSep (Finset.univ.erase c) Φ : sProp 𝕄) ⊢ bigSep (Finset.univ.erase c) Ψ :=
    bigSep_mono fun d hd => h d (Finset.ne_of_mem_erase hd)
  iapply hr $$ Hr

/-! ## What is in hand before and after a block -/

/-- The two inbox slots of device `d` that device `c` writes. -/
def inb (d c : Dev nD) : sProp 𝕄 :=
  iprop((∃ X, owns (d : Thread nD τ) (slotC inC c) fullShare X) ∗ (∃ X, owns (d : Thread nD τ) (slotS inS c) fullShare X))
/-- The gather slot of device `d` that device `c` writes. -/
def gsl (d c : Dev nD) : sProp 𝕄 := iprop(∃ X, owns (d : Thread nD τ) (slotG (gap d c)) fullShare X)

omit [FloatOps F] in
theorem barPay_split (d c : Dev nD) : barPay (F := F) d c ⊢ iprop(inb d c ∗ gsl d c) := by
  unfold barPay inb gsl
  iintro ⟨H1, H2, H3⟩
  isplitl [H1 H2]; · (isplitl [H1] <;> iassumption)
  iexact H3

/-- A transfer of array `f` with device `d`: under way, or, with the device itself, as if it were over. -/
def pend (c : Dev nD) (f : Fin 6) (d : Dev nD) : sProp 𝕄 :=
  if c = d then xferPay m c f d else cred (tallyAt (xCell c f d) () (amt f))

theorem xfer_0 (c d : Dev nD) : xferPay m c 0 d = owns (c : Thread nD τ) (slotC payC d) fullShare (cV m c d) := rfl
theorem xfer_1 (c d : Dev nD) : xferPay m c 1 d = owns (c : Thread nD τ) (slotS payS d) fullShare (sV m c d) := rfl
theorem xfer_2 (c d : Dev nD) : xferPay m c 2 d = owns (c : Thread nD τ) (slotC inC d) fullShare (cV m d c) := rfl
theorem xfer_3 (c d : Dev nD) : xferPay m c 3 d = owns (c : Thread nD τ) (slotS inS d) fullShare (sV m d c) := rfl
theorem xfer_4 (c : Dev nD) (t : Fin 4) : xferPay m c 4 t = owns (c : Thread nD τ) stage (shr t) (ctx16 m c) := rfl
theorem xfer_5 (c : Dev nD) (t : Fin 4) : xferPay m c 5 t = owns (c : Thread nD τ) (slotG t) fullShare (gV m (bwd c t)) := rfl

/-- The tokens of the two copies from device `c` to device `d`. -/
def toks (c d : Dev nD) : sProp 𝕄 :=
  iprop(dutyTok ER (xCell c 0 d) 0 0 ∗ dutyTok ER (xCell d 2 c) 0 0 ∗ dutyTok ER (xCell c 1 d) 0 0 ∗ dutyTok ER (xCell d 3 c) 0 0)

/-- The source slots for device `d`, filled. -/
def filled (c d : Dev nD) : sProp 𝕄 :=
  iprop(owns (c : Thread nD τ) (slotC payC d) fullShare (cV m c d) ∗ owns (c : Thread nD τ) (slotS payS d) fullShare (sV m c d))

/-- After the copies to device `d`. -/
def sent (c d : Dev nD) : sProp 𝕄 := iprop(pend m c 0 d ∗ pend m c 1 d ∗ (if c = d then inb c c else emp))

/-! ## The blocks -/

theorem sem_off (f : Fin 6) (j : Fin 4) {off : Fin 1 → ℕ} (ho : off = ![j.val]) (h : 6 + 4 * f.val + S4.numel ≤ 30)
    (hb : ∀ a, off a + S1.size a ≤ S4.size a) :
    (((SemArray.consecutive (n := 30) (6 + 4 * f.val) S4 h).slice (Rect.unit (s := S4) off S1.size hb)).squeeze S_ squeezes_S1_S_).sem
      = xsem f j := by
  subst ho; exact sem_at f j h hb

section Blocks
variable (c d : Dev nD) {P : Prop} [Decidable P]

theorem signal_if {α : Type} {Q : α → sProp 𝕄} (hP : P ↔ c ≠ d) {n : P → Dev nD} (hn : ∀ h, n h = d) {z : ℤ} (hz : z = 1)
    {rest : Prog (TpuEff nD τ sig (Elt F) Λ₀ .tc) α} (B S : List (Dev nD)) (G : List (Fin 4)) :
    iprop(recs m K ∗ ow c (owe c (d :: B) S G) ∗ dutyTok ER (barCell d) 0 c ∗ barPay c d)
      ⊢ iprop((ow c (owe c B S G) ∗ (if c = d then barPay c d else emp) -∗ Runs c rest Q)
          -∗ Runs c (if h : P then .op (.semSignal (Dev.tc (n h) : Thread nD τ) barS z) (fun _ => rest) else rest) Q) := by
  rw [owe_B]
  by_cases hcd : c = d
  · subst hcd
    rw [dif_neg (fun h => hP.mp h rfl), owB_self, add_zero, if_pos rfl]
    iintro ⟨#HR, HO, -, Hp⟩ Hk
    iapply Hk
    isplitl [HO] <;> iassumption
  · rw [dif_pos (hP.mpr hcd), if_neg hcd]
    iintro H Hk
    iapply (signal_step m K c d (hn _) hcd hz (owe c B S G)) $$ H
    iintro HO
    iapply Hk
    isplitl [HO]; · iexact HO
    iempintro

theorem exch_if {α : Type} {Q : α → sProp 𝕄} (hP : P ↔ c ≠ d) {n n' : P → Dev nD} (hn : ∀ h, n h = d) (hn' : ∀ h, n' h = d)
    {qs qr qs' qr' : P → DmaSem sig} (hqs : ∀ h, qs h = xsem 0 d) (hqr : ∀ h, qr h = xsem 2 c)
    (hqs' : ∀ h, qs' h = xsem 1 d) (hqr' : ∀ h, qr' h = xsem 3 c)
    {src dst : P → Memref sig .tc .vmem S8x64x64 .bf16} {src' dst' : P → Memref sig .tc .vmem S8x64 .f32}
    (hs : ∀ h, src h = (slotC payC d).squeeze S8x64x64 squeezes_S1x8x64x64_S8x64x64)
    (hd : ∀ h, dst h = (slotC inC c).squeeze S8x64x64 squeezes_S1x8x64x64_S8x64x64)
    (hs' : ∀ h, src' h = (slotS payS d).squeeze S8x64 squeezes_S1x8x64_S8x64)
    (hd' : ∀ h, dst' h = (slotS inS c).squeeze S8x64 squeezes_S1x8x64_S8x64)
    {g₁ : ∀ h, (dst h).view.ref.isScScratch = false} {g₂ : ∀ h, (src h).view.WordExact} {g₃ : ∀ h, (dst h).view.WordExact}
    {g₄ : ∀ h, DmaTarget.Typed .vmem (.dma (qr h)) (.remote (Dev.tc (n h) : Thread nD τ) (dst h) (.dma (qs h)) (g₁ h))}
    {g₁' : ∀ h, (dst' h).view.ref.isScScratch = false} {g₂' : ∀ h, (src' h).view.WordExact} {g₃' : ∀ h, (dst' h).view.WordExact}
    {g₄' : ∀ h, DmaTarget.Typed .vmem (.dma (qr' h)) (.remote (Dev.tc (n' h) : Thread nD τ) (dst' h) (.dma (qs' h)) (g₁' h))}
    {rest : Prog (TpuEff nD τ sig (Elt F) Λ₀ .tc) α} (S : List (Dev nD)) (G : List (Fin 4)) :
    iprop(recs m K ∗ ow c (owe c [] (d :: S) G) ∗ filled m c d ∗ inb d c ∗ toks c d)
      ⊢ iprop((ow c (owe c [] S G) ∗ sent m c d -∗ Runs c rest Q)
          -∗ Runs c (if h : P then
                .op (.enqueueDma (src h) (.remote (Dev.tc (n h) : Thread nD τ) (dst h) (.dma (qs h)) (g₁ h)) (.dma (qr h)) (g₂ h) (g₃ h) (g₄ h)) (fun _ =>
                .op (.enqueueDma (src' h) (.remote (Dev.tc (n' h) : Thread nD τ) (dst' h) (.dma (qs' h)) (g₁' h)) (.dma (qr' h)) (g₂' h) (g₃' h) (g₄' h)) (fun _ => rest))
              else rest) Q) := by
  rw [owe_S]
  unfold sent pend filled toks inb
  by_cases hcd : c = d
  · subst hcd
    rw [dif_neg (fun h => hP.mp h rfl), owX_self, add_zero, if_pos rfl, if_pos rfl, if_pos rfl, xfer_0, xfer_1]
    iintro ⟨#HR, HO, ⟨Hf, Hf'⟩, Hi, -⟩ Hk
    iapply Hk
    isplitl [HO]; · iexact HO
    isplitl [Hf]; · iexact Hf
    isplitl [Hf']; · iexact Hf'
    iexact Hi
  · rw [dif_pos (hP.mpr hcd), if_neg hcd, if_neg hcd, if_neg hcd]
    unfold owX
    rw [if_neg hcd, if_neg hcd, ← add_assoc]
    iintro ⟨#HR, HO, ⟨Hf, Hf'⟩, ⟨⟨%X, Hi⟩, ⟨%X', Hi'⟩⟩, Ht₀, Ht₂, Ht₁, Ht₃⟩ Hk
    have h := hP.mpr hcd
    iapply (send_step m K c d 0 2 d c (fun e => hcd e.symm) hcd rfl (hn h) (hqs h) (hqr h) (hs h) (hd h) rfl
      (q := fullShare) (X := fun y => cV m c d (Shape.reshapeEquiv squeezes_S1x8x64x64_S8x64x64.numel_eq y))
      (by rw [owns_squeeze]; exact .rfl) (by rw [owns_squeeze]; exact .rfl)
      (owe c [] S G + tallyAt (xCell d 3 c) () NS)) $$ [HO Hf Hi Ht₀ Ht₂]
    · isplitr; · iexact HR
      isplitl [Hf]; · rw [owns_squeeze]; iexact Hf
      isplitl [Hi]; · (iapply (owns_squeeze_ex d) $$ Hi)
      isplitl [HO]; · iexact HO
      isplitl [Ht₀] <;> iassumption
    iintro ⟨Hc, HO⟩
    iapply (send_step m K c d 1 3 d c (fun e => hcd e.symm) hcd rfl (hn' h) (hqs' h) (hqr' h) (hs' h) (hd' h) rfl
      (q := fullShare) (X := fun y => sV m c d (Shape.reshapeEquiv squeezes_S1x8x64_S8x64.numel_eq y))
      (by rw [owns_squeeze]; exact .rfl) (by rw [owns_squeeze]; exact .rfl)
      (owe c [] S G)) $$ [HO Hf' Hi' Ht₁ Ht₃]
    · isplitr; · iexact HR
      isplitl [Hf']; · rw [owns_squeeze]; iexact Hf'
      isplitl [Hi']; · (iapply (owns_squeeze_ex d) $$ Hi')
      isplitl [HO]; · iexact HO
      isplitl [Ht₁] <;> iassumption
    iintro ⟨Hc', HO⟩
    iapply Hk
    isplitl [HO]; · iexact HO
    isplitl [Hc]; · iexact Hc
    isplitl [Hc']; · iexact Hc'
    iempintro

theorem waits_if {α : Type} {Q : α → sProp 𝕄} (hP : P ↔ c ≠ d) (f g : Fin 6) (hf : f.val < 4) (hg : g.val < 4)
    {q q' : P → DmaSem sig} (hq : ∀ h, q h = xsem f d) (hq' : ∀ h, q' h = xsem g d)
    {s s' : Shape} {e e' : EltTy} {src dst : P → Memref sig .tc .vmem s e} {src' dst' : P → Memref sig .tc .vmem s' e'}
    (hN : ∀ h, (dst h).view.dmaCredit = amt f) (hN' : ∀ h, (dst' h).view.dmaCredit = amt g)
    {g₁ : ∀ h, (src h).view.WordExact} {g₂ : ∀ h, (dst h).view.WordExact} {g₁' : ∀ h, (src' h).view.WordExact} {g₂' : ∀ h, (dst' h).view.WordExact}
    {rest : Prog (TpuEff nD τ sig (Elt F) Λ₀ .tc) α} (G : List (Fin 4)) :
    iprop(recs m K ∗ levAts L lv ∗ ow c (owe c [] [] G) ∗ pend m c f d ∗ pend m c g d
        ∗ atPos ER (xCell c f d) 0 ∅ 0 ∗ atPos ER (xCell c g d) 0 ∅ 0)
      ⊢ iprop((ow c (owe c [] [] G) ∗ xferPay m c f d ∗ xferPay m c g d ∗ semVal (xCell c f d) 0 ∗ semVal (xCell c g d) 0 -∗ Runs c rest Q)
          -∗ Runs c (if h : P then .op (.waitDma2 (q h) (src h) (dst h) (g₁ h) (g₂ h)) (fun _ =>
                .op (.waitDma2 (q' h) (src' h) (dst' h) (g₁' h) (g₂' h)) (fun _ => rest)) else rest) Q) := by
  unfold pend
  by_cases hcd : c = d
  · subst hcd
    rw [dif_neg (fun h => hP.mp h rfl), if_pos rfl, if_pos rfl]
    iintro ⟨#HR, #HL, HO, Hf, Hg, Ha, Hb⟩ Hk
    imod (close_unused m K c f c (fun hu => by unfold used at hu; rw [if_pos hf] at hu; exact hu rfl)) $$ [Ha] with Hz
    · isplitr; · iexact HR
      iexact Ha
    imod (close_unused m K c g c (fun hu => by unfold used at hu; rw [if_pos hg] at hu; exact hu rfl)) $$ [Hb] with Hz'
    · isplitr; · iexact HR
      iexact Hb
    iapply Hk
    isplitl [HO]; · iexact HO
    isplitl [Hf]; · iexact Hf
    isplitl [Hg]; · iexact Hg
    isplitl [Hz] <;> iassumption
  · rw [dif_pos (hP.mpr hcd), if_neg hcd, if_neg hcd]
    have h := hP.mpr hcd
    iintro ⟨#HR, #HL, HO, Hf, Hg, Ha, Hb⟩ Hk
    iapply (wait_step m K c f d (by unfold used; rw [if_pos hf]; exact fun e => hcd e.symm) (hq h) (hN h) G (fun e => by subst e; omega)) $$ [HO Hf Ha]
    · isplitr; · iexact HR
      isplitr; · iexact HL
      isplitl [Hf]; · iexact Hf
      isplitl [HO] <;> iassumption
    iintro ⟨HO, Hz, Hf⟩
    iapply (wait_step m K c g d (by unfold used; rw [if_pos hg]; exact fun e => hcd e.symm) (hq' h) (hN' h) G (fun e => by subst e; omega)) $$ [HO Hg Hb]
    · isplitr; · iexact HR
      isplitr; · iexact HL
      isplitl [Hg]; · iexact Hg
      isplitl [HO] <;> iassumption
    iintro ⟨HO, Hz', Hg⟩
    iapply Hk
    isplitl [HO]; · iexact HO
    isplitl [Hf]; · iexact Hf
    isplitl [Hg]; · iexact Hg
    isplitl [Hz] <;> iassumption
end Blocks

/-! ## The same values by the other path -/

abbrev w400 : BitVec 32 := Scalar.select (Scalar.cmpi .eq 3#32 0#32) 1#32 3#32

section Values
variable (q k v : FVec F S8x256x64 .bf16) (kc qr : IVec S128x256 32)
theorem second_c2 : k0_pay15 v (k0_pay8 q k) (k0_pay10 kc qr) w400 (k0_pay11 kc qr) 0#32 = k0_pay22 q k v kc qr := rfl
theorem second_s2 : k0_pay16 (k0_pay8 q k) (k0_pay10 kc qr) w400 (k0_pay11 kc qr) 0#32 = k0_pay23 (k0_pay20 q k kc qr) := rfl
theorem second_c3 : k0_pay17 v (k0_pay8 q k) (k0_pay10 kc qr) w400 (k0_pay11 kc qr) 0#32 = k0_pay24 (k0_pay21 q k v kc qr) := rfl
theorem second_s3 : k0_pay45 (k0_pay18 (k0_pay8 q k) (k0_pay10 kc qr) w400 (k0_pay11 kc qr) 0#32) = k0_pay25 (k0_pay20 q k kc qr) := rfl
theorem second_c0 : k0_pay33 v (k0_pay26 q k) (k0_pay28 kc qr) w400 (k0_pay29 kc qr) 0#32 = k0_pay4 q k v kc qr := rfl
theorem second_s0 : k0_pay34 (k0_pay26 q k) (k0_pay28 kc qr) w400 (k0_pay29 kc qr) 0#32 = k0_pay5 (k0_pay2 q k kc qr) := rfl
theorem second_c1 : k0_pay35 v (k0_pay26 q k) (k0_pay28 kc qr) w400 (k0_pay29 kc qr) 0#32 = k0_pay6 (k0_pay3 q k v kc qr) := rfl
theorem second_s1 : k0_pay46 (k0_pay36 (k0_pay26 q k) (k0_pay28 kc qr) w400 (k0_pay29 kc qr) 0#32) = k0_pay7 (k0_pay2 q k kc qr) := rfl
theorem own_c (x : FVec F S1x8x64x64 .bf16) : k0_pay47 x = x := by
  funext i; exact congrArg x ((Shape.reshapeEquiv_reshapeEquiv _ _ _).trans (Shape.reshapeEquiv_self _ _))
theorem own_s (x : FVec F S1x8x64 .f32) : k0_pay48 x = x := by
  funext i; exact congrArg x ((Shape.reshapeEquiv_reshapeEquiv _ _ _).trans (Shape.reshapeEquiv_self _ _))
end Values

end Cert.KernelIdeal.Hand

end
-- ==== Proof.KernelIdeal.BodyA.lean ====
/-
The kernel's body on device `c`, part by part up to the end of the first exchange's sends.
-/
module

public import proofs.«01_k».proof.Proof.KernelIdeal.Blocks

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

omit [FloatOps F] in
theorem hz2 : (![0, 0] : Fin 2 → ℕ) = fun _ => 0 := funext fun a => by fin_cases a <;> rfl
omit [FloatOps F] in
theorem hz3 : (![0, 0, 0] : Fin 3 → ℕ) = fun _ => 0 := funext fun a => by fin_cases a <;> rfl
omit [FloatOps F] in
theorem hz4 : (![0, 0, 0, 0] : Fin 4 → ℕ) = fun _ => 0 := funext fun a => by fin_cases a <;> rfl

/-- Device `c` owns the memref `M`, which holds `X`. -/
abbrev has (c : Dev nD) {s : Shape} {e : EltTy} (M : Memref sig .tc .vmem s e) (X : s.Idx → Elt F e) : sProp 𝕄 :=
  owns (c : Thread nD τ) M fullShare X

/-- Before its barrier signal to device `d`, device `c` still has what it hands over; to itself it hands over nothing. -/
def kept (c d : Dev nD) : sProp 𝕄 := if c = d then barPay c d else iprop(emp)

/-- The source slots for device `d`, holding anything. -/
abbrev raw (c d : Dev nD) : sProp 𝕄 :=
  iprop((∃ X, owns (c : Thread nD τ) (slotC payC d) fullShare X) ∗ (∃ X, owns (c : Thread nD τ) (slotS payS d) fullShare X))

/-- With the barrier passed device `c` holds the places of every device, its own among them, that it writes. -/
theorem bar_all (c : Dev nD) :
    iprop(four (kept (F := F) c) ∗ bigSep (Finset.univ.filter (· ≠ c)) (fun d => barPay d c))
      ⊢ iprop(four (fun d => inb d c) ∗ four (fun d => gsl d c)) := by
  have h₁ : (bigSep Finset.univ (kept (F := F) c) : sProp 𝕄) ⊢ barPay c c :=
    (bigSep_elim (Φ := kept (F := F) c) (Finset.mem_univ c)).trans (Entails.of_eq (show kept (F := F) c c = barPay c c by unfold kept; rw [if_pos rfl]))
  have h₂ : (iprop(barPay c c ∗ bigSep (Finset.univ.filter (· ≠ c)) (fun d => barPay d c)) : sProp 𝕄)
      = bigSep Finset.univ (fun d => barPay (F := F) d c) := by
    rw [bigSep_univ_at (fun d => barPay (F := F) d c) c]
    congr 2
    ext d; simp
  have h₃ : (bigSep Finset.univ (fun d => barPay (F := F) d c) : sProp 𝕄) ⊢ bigSep Finset.univ (fun d => iprop(inb d c ∗ gsl d c)) :=
    bigSep_mono fun d _ => barPay_split d c
  rw [← four_eq, ← four_eq, ← four_eq, ← bigSep_sep']
  have h₄ : (iprop(bigSep Finset.univ (kept (F := F) c) ∗ bigSep (Finset.univ.filter (· ≠ c)) (fun d => barPay d c)) : sProp 𝕄)
      ⊢ iprop(barPay c c ∗ bigSep (Finset.univ.filter (· ≠ c)) (fun d => barPay d c)) := by
    iintro ⟨H, H'⟩
    isplitl [H]; · iapply h₁ $$ H
    iexact H'
  rw [h₂] at h₄
  exact h₄.trans h₃

theorem runs_ret {α : Type} {Q : α → sProp 𝕄} (c : Dev nD) {a : α} : Q a ⊢ Runs c (.ret a) Q := by
  unfold Runs; rw [wp_ret]
  iintro H
  imodintro
  iexact H

theorem load_full {α : Type} {Q : α → sProp 𝕄} (c : Dev nD) {s : Shape} {e : EltTy} (M : Memref sig .tc .vmem s e) {off : Fin s.rank → ℕ}
    (ho : off = fun _ => 0) {hb : ∀ a, off a + s.size a ≤ s.size a} {hl : M.view.LoadsAt (Rect.unit off s.size hb).toLoadRect}
    {q : PosShare TreeShare} {X : s.Idx → Elt F e} {k : (s.Idx → Elt F e) → Prog (TpuEff nD τ sig (Elt F) Λ₀ .tc) α} :
    (owns (c : Thread nD τ) M q X : sProp 𝕄)
      ⊢ iprop((owns (c : Thread nD τ) M q X -∗ Runs c (k X) Q)
          -∗ Runs c (.op (.load M (Rect.unit off s.size hb).toLoadRect hl) k) Q) := by
  unfold owns
  iintro ⟨%f, %hf, H⟩ Hk
  have hX : M.view.readAt (Elt F) (Rect.unit off s.size hb).toLoadRect f = X := by
    subst ho hf; funext x
    show _root_.cast _ (f (M.view.emb ((Rect.whole s).emb x))) = _
    rw [Rect.emb_whole_apply]; rfl
  iapply (wp_load 𝒱₀ (c : Thread nD τ) none Set.univ (m := M) (S := M.view.set) (Finset.map_subset_map.2 (Finset.subset_univ _))) $$ H
  iintro H
  rw [hX]
  iapply Hk
  iexists f
  isplitr; · (ipureintro; exact hf)
  iexact H

theorem get_C {α : Type} {Q : α → sProp 𝕄} (c : Dev nD) (M : Memref sig .tc .vmem S4x8x64x64 .bf16) (j : Fin 4) {off : Fin S4x8x64x64.rank → ℕ} (ho : off = ![j.val, 0, 0, 0])
    {hb : ∀ a, off a + S1x8x64x64.size a ≤ S4x8x64x64.size a} {hl : (M).view.LoadsAt (Rect.unit (s := S4x8x64x64) off S1x8x64x64.size hb).toLoadRect}
    {k : (S1x8x64x64.Idx → Elt F .bf16) → Prog (TpuEff nD τ sig (Elt F) Λ₀ .tc) α} {q : PosShare TreeShare} {X : S1x8x64x64.Idx → Elt F .bf16} :
    (owns (c : Thread nD τ) (slotC M j) q X : sProp 𝕄)
      ⊢ iprop((owns (c : Thread nD τ) (slotC M j) q X -∗ Runs c (k X) Q)
          -∗ Runs c (.op (.load M (Rect.unit (s := S4x8x64x64) off S1x8x64x64.size hb).toLoadRect hl) k) Q) :=
  load_at c M ho

theorem put_C {α : Type} {Q : α → sProp 𝕄} (c : Dev nD) (M : Memref sig .tc .vmem S4x8x64x64 .bf16) (j : Fin 4) {off : Fin S4x8x64x64.rank → ℕ} (ho : off = ![j.val, 0, 0, 0])
    {hb : ∀ a, off a + S1x8x64x64.size a ≤ S4x8x64x64.size a} {hl : (M).view.LoadsAt (Rect.unit (s := S4x8x64x64) off S1x8x64x64.size hb).toLoadRect}
    {hx : ((M).access (Rect.unit (s := S4x8x64x64) off S1x8x64x64.size hb)).Stores Finset.univ}
    {hm : (Finset.univ : Finset (Rect.unit (s := S4x8x64x64) off S1x8x64x64.size hb).shape.Idx) = Finset.univ ∨ ∀ a, (Rect.unit (s := S4x8x64x64) off S1x8x64x64.size hb).stride a = 1}
    {k : PUnit → Prog (TpuEff nD τ sig (Elt F) Λ₀ .tc) α} {w : S1x8x64x64.Idx → Elt F .bf16} :
    (iprop(∃ X, owns (c : Thread nD τ) (slotC M j) fullShare X) : sProp 𝕄)
      ⊢ iprop((owns (c : Thread nD τ) (slotC M j) fullShare w -∗ Runs c (k ⟨⟩) Q)
          -∗ Runs c (.op (.load M (Rect.unit (s := S4x8x64x64) off S1x8x64x64.size hb).toLoadRect hl)
              (fun _ => .op (.store M (Rect.unit (s := S4x8x64x64) off S1x8x64x64.size hb) w Finset.univ hx hm) k)) Q) :=
  overwrite_at c M ho

theorem get_S {α : Type} {Q : α → sProp 𝕄} (c : Dev nD) (M : Memref sig .tc .vmem S4x8x64 .f32) (j : Fin 4) {off : Fin S4x8x64.rank → ℕ} (ho : off = ![j.val, 0, 0])
    {hb : ∀ a, off a + S1x8x64.size a ≤ S4x8x64.size a} {hl : (M).view.LoadsAt (Rect.unit (s := S4x8x64) off S1x8x64.size hb).toLoadRect}
    {k : (S1x8x64.Idx → Elt F .f32) → Prog (TpuEff nD τ sig (Elt F) Λ₀ .tc) α} {q : PosShare TreeShare} {X : S1x8x64.Idx → Elt F .f32} :
    (owns (c : Thread nD τ) (slotS M j) q X : sProp 𝕄)
      ⊢ iprop((owns (c : Thread nD τ) (slotS M j) q X -∗ Runs c (k X) Q)
          -∗ Runs c (.op (.load M (Rect.unit (s := S4x8x64) off S1x8x64.size hb).toLoadRect hl) k) Q) :=
  load_at c M ho

theorem put_S {α : Type} {Q : α → sProp 𝕄} (c : Dev nD) (M : Memref sig .tc .vmem S4x8x64 .f32) (j : Fin 4) {off : Fin S4x8x64.rank → ℕ} (ho : off = ![j.val, 0, 0])
    {hb : ∀ a, off a + S1x8x64.size a ≤ S4x8x64.size a} {hl : (M).view.LoadsAt (Rect.unit (s := S4x8x64) off S1x8x64.size hb).toLoadRect}
    {hx : ((M).access (Rect.unit (s := S4x8x64) off S1x8x64.size hb)).Stores Finset.univ}
    {hm : (Finset.univ : Finset (Rect.unit (s := S4x8x64) off S1x8x64.size hb).shape.Idx) = Finset.univ ∨ ∀ a, (Rect.unit (s := S4x8x64) off S1x8x64.size hb).stride a = 1}
    {k : PUnit → Prog (TpuEff nD τ sig (Elt F) Λ₀ .tc) α} {w : S1x8x64.Idx → Elt F .f32} :
    (iprop(∃ X, owns (c : Thread nD τ) (slotS M j) fullShare X) : sProp 𝕄)
      ⊢ iprop((owns (c : Thread nD τ) (slotS M j) fullShare w -∗ Runs c (k ⟨⟩) Q)
          -∗ Runs c (.op (.load M (Rect.unit (s := S4x8x64) off S1x8x64.size hb).toLoadRect hl)
              (fun _ => .op (.store M (Rect.unit (s := S4x8x64) off S1x8x64.size hb) w Finset.univ hx hm) k)) Q) :=
  overwrite_at c M ho

theorem get_G {α : Type} {Q : α → sProp 𝕄} (c : Dev nD) (j : Fin 4) {off : Fin S4x2x64x256.rank → ℕ} (ho : off = ![j.val, 0, 0, 0])
    {hb : ∀ a, off a + S1x2x64x256.size a ≤ S4x2x64x256.size a} {hl : (gath).view.LoadsAt (Rect.unit (s := S4x2x64x256) off S1x2x64x256.size hb).toLoadRect}
    {k : (S1x2x64x256.Idx → Elt F .bf16) → Prog (TpuEff nD τ sig (Elt F) Λ₀ .tc) α} {q : PosShare TreeShare} {X : S1x2x64x256.Idx → Elt F .bf16} :
    (owns (c : Thread nD τ) (slotG j) q X : sProp 𝕄)
      ⊢ iprop((owns (c : Thread nD τ) (slotG j) q X -∗ Runs c (k X) Q)
          -∗ Runs c (.op (.load gath (Rect.unit (s := S4x2x64x256) off S1x2x64x256.size hb).toLoadRect hl) k) Q) :=
  load_at c gath ho

theorem put_O {α : Type} {Q : α → sProp 𝕄} (c : Dev nD) (j : Fin 4) {off : Fin S2x256x512.rank → ℕ} (ho : off = ![0, 64 * j.val, 0])
    {hb : ∀ a, off a + S2x64x512.size a ≤ S2x256x512.size a} {hl : (outM).view.LoadsAt (Rect.unit (s := S2x256x512) off S2x64x512.size hb).toLoadRect}
    {hx : ((outM).access (Rect.unit (s := S2x256x512) off S2x64x512.size hb)).Stores Finset.univ}
    {hm : (Finset.univ : Finset (Rect.unit (s := S2x256x512) off S2x64x512.size hb).shape.Idx) = Finset.univ ∨ ∀ a, (Rect.unit (s := S2x256x512) off S2x64x512.size hb).stride a = 1}
    {k : PUnit → Prog (TpuEff nD τ sig (Elt F) Λ₀ .tc) α} {w : S2x64x512.Idx → Elt F .f32} :
    (iprop(∃ X, owns (c : Thread nD τ) (slotO j) fullShare X) : sProp 𝕄)
      ⊢ iprop((owns (c : Thread nD τ) (slotO j) fullShare w -∗ Runs c (k ⟨⟩) Q)
          -∗ Runs c (.op (.load outM (Rect.unit (s := S2x256x512) off S2x64x512.size hb).toLoadRect hl)
              (fun _ => .op (.store outM (Rect.unit (s := S2x256x512) off S2x64x512.size hb) w Finset.univ hx hm) k)) Q) :=
  overwrite_at c outM ho

section Parts
variable (c : Dev nD)

theorem part7_runs :
    iprop(recs m K ∗ ow c (O₀ c) ∗ four (fun d => dutyTok ER (barCell d) 0 c) ∗ four (fun d => barPay c d)
        ∗ has c (Memref.whole cc0_stg0_0) (aX m c) ∗ has c (Memref.whole cc0_stg1_0) (aQ m c) ∗ has c (Memref.whole cc0_stg2_0) (aK m c))
      ⊢ Runs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11)
          (fun r => iprop(⌜r = ⟨c, devW c, SemArray.scalar (sig.barrier 0 rfl), qV m c, k0_pay38 (aK m c)⟩⌝
            ∗ ow c (owe c [] [0, 1, 2, 3] [0, 2, 1]) ∗ four (kept c)
            ∗ has c (Memref.whole cc0_stg0_0) (aX m c) ∗ has c (Memref.whole cc0_stg1_0) (aQ m c) ∗ has c (Memref.whole cc0_stg2_0) (aK m c))) := by
  rw [k0_part7_eq_skeleton]; unfold k0_part7_skel O₀
  simp only [semSignalWord, Prog.lift, Prog.bind_op, Prog.bind_ret, Prog.pure_eq_ret, wp_deviceId]
  iintro ⟨#HR, HO, ⟨Ht0, Ht1, Ht2, Ht3⟩, ⟨Hp0, Hp1, Hp2, Hp3⟩, H0, H1, H2⟩
  iapply (signal_if m K c 0 (by revert c; decide) (fun _ => Fin.ext k0_dev1_eq) rfl [1, 2, 3] [0, 1, 2, 3] [0, 2, 1]) $$ [HO Ht0 Hp0]
  · isplitr; · iexact HR
    isplitl [HO]; · iexact HO
    isplitl [Ht0] <;> iassumption
  iintro ⟨HO, Hk0⟩
  iapply (signal_if m K c 1 (by revert c; decide) (fun _ => Fin.ext k0_dev2_eq) rfl [2, 3] [0, 1, 2, 3] [0, 2, 1]) $$ [HO Ht1 Hp1]
  · isplitr; · iexact HR
    isplitl [HO]; · iexact HO
    isplitl [Ht1] <;> iassumption
  iintro ⟨HO, Hk1⟩
  iapply (signal_if m K c 2 (by revert c; decide) (fun _ => Fin.ext k0_dev3_eq) rfl [3] [0, 1, 2, 3] [0, 2, 1]) $$ [HO Ht2 Hp2]
  · isplitr; · iexact HR
    isplitl [HO]; · iexact HO
    isplitl [Ht2] <;> iassumption
  iintro ⟨HO, Hk2⟩
  iapply (signal_if m K c 3 (by revert c; decide) (fun _ => Fin.ext k0_dev4_eq) rfl [] [0, 1, 2, 3] [0, 2, 1]) $$ [HO Ht3 Hp3]
  · isplitr; · iexact HR
    isplitl [HO]; · iexact HO
    isplitl [Ht3] <;> iassumption
  iintro ⟨HO, Hk3⟩
  iapply (load_full c (Memref.whole cc0_stg0_0) hz3) $$ H0; iintro H0
  iapply (load_full c (Memref.whole cc0_stg1_0) hz2) $$ H1; iintro H1
  iapply (load_full c (Memref.whole cc0_stg2_0) hz4) $$ H2; iintro H2
  iapply (runs_ret c)
  isplitr; · (ipureintro; rfl)
  isplitl [HO]; · iexact HO
  isplitl [Hk0 Hk1 Hk2 Hk3]
  · unfold kept
    isplitl [Hk0]; · iexact Hk0
    isplitl [Hk1]; · iexact Hk1
    isplitl [Hk2] <;> iassumption
  isplitl [H0]; · iexact H0
  isplitl [H1] <;> iassumption

theorem part8_runs :
    has c (Memref.whole cc0_stg3_0) (aV m c)
      ⊢ Runs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (devW c) (k0_pay38 (aK m c)))
          (fun r => iprop(⌜r = ⟨kV m c, vV m c, kcol c, iota .tc S128x256 32 [0] iota_S128x256_d0_w32, 64#32, k0_pay42, k0_pay43, 0#32⟩⌝
            ∗ has c (Memref.whole cc0_stg3_0) (aV m c))) := by
  rw [k0_part8_eq_skeleton]; unfold k0_part8_skel
  simp only [Prog.lift, Prog.bind_op, Prog.bind_ret, Prog.pure_eq_ret]
  iintro H
  iapply (load_full c (Memref.whole cc0_stg3_0) hz4) $$ H; iintro H
  iapply (runs_ret c)
  isplitr; · (ipureintro; rfl)
  iexact H

theorem part1_runs :
    (iprop(∃ X, owns (c : Thread nD τ) (slotC payC 0) fullShare X) : sProp 𝕄)
      ⊢ Runs c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (qV m c) (kV m c) (vV m c) (kcol c) qrow)
          (fun r => iprop(⌜r = ⟨k0_pay2 (qV m c) (kV m c) (kcol c) qrow, k0_pay3 (qV m c) (kV m c) (vV m c) (kcol c) qrow⟩⌝
            ∗ owns (c : Thread nD τ) (slotC payC 0) fullShare (cV m c 0))) := by
  rw [k0_part1_eq_skeleton]; unfold k0_part1_skel
  simp only [Prog.lift, Prog.bind_op, Prog.bind_ret, Prog.pure_eq_ret]
  iintro H
  iapply (put_C c payC 0 rfl) $$ H; iintro H
  iapply (runs_ret c)
  isplitr; · (ipureintro; rfl)
  iexact H

theorem part3_runs :
    (iprop(raw c 2 ∗ (∃ X, owns (c : Thread nD τ) (slotC payC 3) fullShare X)) : sProp 𝕄)
      ⊢ Runs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (vV m c) (k0_pay8 (qV m c) (kV m c)) (k0_pay10 (kcol c) qrow) w400 (k0_pay11 (kcol c) qrow) 0#32)
          (fun r => iprop(⌜r = k0_pay18 (k0_pay8 (qV m c) (kV m c)) (k0_pay10 (kcol c) qrow) w400 (k0_pay11 (kcol c) qrow) 0#32⌝
            ∗ filled m c 2 ∗ owns (c : Thread nD τ) (slotC payC 3) fullShare (cV m c 3))) := by
  rw [k0_part3_eq_skeleton]; unfold k0_part3_skel raw filled
  simp only [Prog.lift, Prog.bind_op, Prog.bind_ret, Prog.pure_eq_ret]
  iintro ⟨⟨H1, H2⟩, H3⟩
  rw [second_c2, second_s2, second_c3]
  iapply (put_C c payC 2 rfl) $$ H1; iintro H1
  iapply (put_S c payS 2 rfl) $$ H2; iintro H2
  iapply (put_C c payC 3 rfl) $$ H3; iintro H3
  iapply (runs_ret c)
  isplitr; · (ipureintro; rfl)
  isplitl [H1 H2]
  · isplitl [H1]; · iexact H1
    iexact H2
  iexact H3

theorem part2_runs (h5 : k0_cond5 c = 1#1) (G : List (Fin 4)) :
    iprop(recs m K ∗ levAts L lv ∗ cred (tallyAt (barCell c) () 3) ∗ atPos ER (barCell c) 0 ∅ 0 ∗ ow c (owe c [] [0, 1, 2, 3] G)
        ∗ four (kept c) ∗ (owns (c : Thread nD τ) (slotC payC 0) fullShare (cV m c 0) ∗ (∃ X, owns (c : Thread nD τ) (slotS payS 0) fullShare X))
        ∗ raw c 1 ∗ toks c 0 ∗ toks c 1)
      ⊢ Runs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (SemArray.scalar (sig.barrier 0 rfl)) (qV m c) (kV m c) (kcol c) qrow h5
            (k0_pay2 (qV m c) (kV m c) (kcol c) qrow) (k0_pay3 (qV m c) (kV m c) (vV m c) (kcol c) qrow))
          (fun r => iprop(⌜r = ⟨k0_pay8 (qV m c) (kV m c), k0_pay10 (kcol c) qrow, w400, k0_pay11 (kcol c) qrow, 0#32⟩⌝
            ∗ ow c (owe c [] [2, 3] G) ∗ semVal (barCell c) 0 ∗ four (fun d => gsl d c) ∗ sent m c 0 ∗ sent m c 1 ∗ inb 2 c ∗ inb 3 c)) := by
  rw [k0_part2_eq_skeleton]; unfold k0_part2_skel raw
  simp only [semWaitWord, Prog.lift, Prog.bind_op, Prog.bind_ret, Prog.pure_eq_ret]
  iintro ⟨#HR, #HL, Hc, Ha, HO, Hk, ⟨H0, H1⟩, ⟨H2, H3⟩, Ht0, Ht1⟩
  iapply (put_S c payS 0 rfl) $$ H1; iintro H1
  iapply (put_C c payC 1 rfl) $$ H2; iintro H2
  iapply (put_S c payS 1 rfl) $$ H3; iintro H3
  iapply (barrier_step m K c rfl [0, 1, 2, 3] G) $$ [Hc Ha HO]
  · isplitr; · iexact HR
    isplitr; · iexact HL
    isplitl [Hc]; · iexact Hc
    isplitl [HO] <;> iassumption
  iintro ⟨HO, Hz, Hp⟩
  ihave Hall := (bar_all c) $$ [Hk Hp]
  · isplitl [Hk] <;> iassumption
  icases Hall with ⟨⟨Hi0, Hi1, Hi2, Hi3⟩, Hg⟩
  iapply (exch_if m K c 0 (by revert c; decide) (fun _ => Fin.ext k0_dev5_eq) (fun _ => Fin.ext k0_dev6_eq)
    (fun _ => sem_off 0 0 rfl _ _) (fun _ => sem_off 2 c (k0_off1_eq c) _ _) (fun _ => sem_off 1 0 rfl _ _) (fun _ => sem_off 3 c (k0_off1_eq c) _ _)
    (fun _ => rfl) (fun _ => squeeze_at inC (k0_off2_eq c) _) (fun _ => rfl) (fun _ => squeeze_at inS (k0_off3_eq c) _) [1, 2, 3] G) $$ [HO H0 H1 Hi0 Ht0]
  · isplitr; · iexact HR
    isplitl [HO]; · iexact HO
    isplitl [H0 H1]; · (unfold filled; isplitl [H0]; · iexact H0
                        iexact H1)
    isplitl [Hi0] <;> iassumption
  iintro ⟨HO, Hs0⟩
  iapply (exch_if m K c 1 (by revert c; decide) (fun _ => Fin.ext k0_dev7_eq) (fun _ => Fin.ext k0_dev8_eq)
    (fun _ => sem_off 0 1 rfl _ _) (fun _ => sem_off 2 c (k0_off4_eq c) _ _) (fun _ => sem_off 1 1 rfl _ _) (fun _ => sem_off 3 c (k0_off4_eq c) _ _)
    (fun _ => rfl) (fun _ => squeeze_at inC (k0_off5_eq c) _) (fun _ => rfl) (fun _ => squeeze_at inS (k0_off6_eq c) _) [2, 3] G) $$ [HO H2 H3 Hi1 Ht1]
  · isplitr; · iexact HR
    isplitl [HO]; · iexact HO
    isplitl [H2 H3]; · (unfold filled; isplitl [H2]; · iexact H2
                        iexact H3)
    isplitl [Hi1] <;> iassumption
  iintro ⟨HO, Hs1⟩
  iapply (runs_ret c)
  isplitr; · (ipureintro; rfl)
  isplitl [HO]; · iexact HO
  isplitl [Hz]; · iexact Hz
  isplitl [Hg]; · iexact Hg
  isplitl [Hs0]; · iexact Hs0
  isplitl [Hs1]; · iexact Hs1
  isplitl [Hi2] <;> iassumption

end Parts

end Cert.KernelIdeal.Hand

end
-- ==== Proof.KernelIdeal.BodyB.lean ====
/-
The kernel's body on device `c`, part by part: the first exchange, in either order.
-/
module

public import proofs.«01_k».proof.Proof.KernelIdeal.BodyA

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

section Parts
variable (c : Dev nD)

theorem part4_runs :
    (iprop(∃ X, owns (c : Thread nD τ) (slotC payC 2) fullShare X) : sProp 𝕄)
      ⊢ Runs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (qV m c) (kV m c) (vV m c) (kcol c) qrow)
          (fun r => iprop(⌜r = ⟨k0_pay20 (qV m c) (kV m c) (kcol c) qrow, k0_pay21 (qV m c) (kV m c) (vV m c) (kcol c) qrow⟩⌝
            ∗ owns (c : Thread nD τ) (slotC payC 2) fullShare (cV m c 2))) := by
  rw [k0_part4_eq_skeleton]; unfold k0_part4_skel
  simp only [Prog.lift, Prog.bind_op, Prog.bind_ret, Prog.pure_eq_ret]
  iintro H
  iapply (put_C c payC 2 rfl) $$ H; iintro H
  iapply (runs_ret c)
  isplitr; · (ipureintro; rfl)
  iexact H

theorem part5_runs (h10 : k0_cond10 c = 1#1) (G : List (Fin 4)) :
    iprop(recs m K ∗ levAts L lv ∗ cred (tallyAt (barCell c) () 3) ∗ atPos ER (barCell c) 0 ∅ 0 ∗ ow c (owe c [] [2, 3, 0, 1] G)
        ∗ four (kept c) ∗ (owns (c : Thread nD τ) (slotC payC 2) fullShare (cV m c 2) ∗ (∃ X, owns (c : Thread nD τ) (slotS payS 2) fullShare X))
        ∗ raw c 3 ∗ toks c 2 ∗ toks c 3)
      ⊢ Runs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (SemArray.scalar (sig.barrier 0 rfl)) (qV m c) (kV m c) (kcol c) qrow h10
            (k0_pay20 (qV m c) (kV m c) (kcol c) qrow) (k0_pay21 (qV m c) (kV m c) (vV m c) (kcol c) qrow))
          (fun r => iprop(⌜r = ⟨k0_pay26 (qV m c) (kV m c), k0_pay28 (kcol c) qrow, w400, k0_pay29 (kcol c) qrow, 0#32⟩⌝
            ∗ ow c (owe c [] [0, 1] G) ∗ semVal (barCell c) 0 ∗ four (fun d => gsl d c) ∗ sent m c 2 ∗ sent m c 3 ∗ inb 0 c ∗ inb 1 c)) := by
  rw [k0_part5_eq_skeleton]; unfold k0_part5_skel raw
  simp only [semWaitWord, Prog.lift, Prog.bind_op, Prog.bind_ret, Prog.pure_eq_ret]
  iintro ⟨#HR, #HL, Hc, Ha, HO, Hk, ⟨H0, H1⟩, ⟨H2, H3⟩, Ht0, Ht1⟩
  iapply (put_S c payS 2 rfl) $$ H1; iintro H1
  iapply (put_C c payC 3 rfl) $$ H2; iintro H2
  iapply (put_S c payS 3 rfl) $$ H3; iintro H3
  iapply (barrier_step m K c rfl [2, 3, 0, 1] G) $$ [Hc Ha HO]
  · isplitr; · iexact HR
    isplitr; · iexact HL
    isplitl [Hc]; · iexact Hc
    isplitl [HO] <;> iassumption
  iintro ⟨HO, Hz, Hp⟩
  ihave Hall := (bar_all c) $$ [Hk Hp]
  · isplitl [Hk] <;> iassumption
  icases Hall with ⟨⟨Hi0, Hi1, Hi2, Hi3⟩, Hg⟩
  iapply (exch_if m K c 2 (by revert c; decide) (fun _ => Fin.ext k0_dev13_eq) (fun _ => Fin.ext k0_dev14_eq)
    (fun _ => sem_off 0 2 rfl _ _) (fun _ => sem_off 2 c (k0_off13_eq c) _ _) (fun _ => sem_off 1 2 rfl _ _) (fun _ => sem_off 3 c (k0_off13_eq c) _ _)
    (fun _ => rfl) (fun _ => squeeze_at inC (k0_off14_eq c) _) (fun _ => rfl) (fun _ => squeeze_at inS (k0_off15_eq c) _) [3, 0, 1] G) $$ [HO H0 H1 Hi2 Ht0]
  · isplitr; · iexact HR
    isplitl [HO]; · iexact HO
    isplitl [H0 H1]; · (unfold filled; isplitl [H0]; · iexact H0
                        iexact H1)
    isplitl [Hi2] <;> iassumption
  iintro ⟨HO, Hs0⟩
  iapply (exch_if m K c 3 (by revert c; decide) (fun _ => Fin.ext k0_dev15_eq) (fun _ => Fin.ext k0_dev16_eq)
    (fun _ => sem_off 0 3 rfl _ _) (fun _ => sem_off 2 c (k0_off16_eq c) _ _) (fun _ => sem_off 1 3 rfl _ _) (fun _ => sem_off 3 c (k0_off16_eq c) _ _)
    (fun _ => rfl) (fun _ => squeeze_at inC (k0_off17_eq c) _) (fun _ => rfl) (fun _ => squeeze_at inS (k0_off18_eq c) _) [0, 1] G) $$ [HO H2 H3 Hi3 Ht1]
  · isplitr; · iexact HR
    isplitl [HO]; · iexact HO
    isplitl [H2 H3]; · (unfold filled; isplitl [H2]; · iexact H2
                        iexact H3)
    isplitl [Hi3] <;> iassumption
  iintro ⟨HO, Hs1⟩
  iapply (runs_ret c)
  isplitr; · (ipureintro; rfl)
  isplitl [HO]; · iexact HO
  isplitl [Hz]; · iexact Hz
  isplitl [Hg]; · iexact Hg
  isplitl [Hs0]; · iexact Hs0
  isplitl [Hs1]; · iexact Hs1
  isplitl [Hi0] <;> iassumption

theorem part6_runs :
    (iprop(raw c 0 ∗ (∃ X, owns (c : Thread nD τ) (slotC payC 1) fullShare X)) : sProp 𝕄)
      ⊢ Runs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (vV m c) (k0_pay26 (qV m c) (kV m c)) (k0_pay28 (kcol c) qrow) w400 (k0_pay29 (kcol c) qrow) 0#32)
          (fun r => iprop(⌜r = k0_pay36 (k0_pay26 (qV m c) (kV m c)) (k0_pay28 (kcol c) qrow) w400 (k0_pay29 (kcol c) qrow) 0#32⌝
            ∗ filled m c 0 ∗ owns (c : Thread nD τ) (slotC payC 1) fullShare (cV m c 1))) := by
  rw [k0_part6_eq_skeleton]; unfold k0_part6_skel raw filled
  simp only [Prog.lift, Prog.bind_op, Prog.bind_ret, Prog.pure_eq_ret]
  iintro ⟨⟨H1, H2⟩, H3⟩
  rw [second_c0, second_s0, second_c1]
  iapply (put_C c payC 0 rfl) $$ H1; iintro H1
  iapply (put_S c payS 0 rfl) $$ H2; iintro H2
  iapply (put_C c payC 1 rfl) $$ H3; iintro H3
  iapply (runs_ret c)
  isplitr; · (ipureintro; rfl)
  isplitl [H1 H2]
  · isplitl [H1]; · iexact H1
    iexact H2
  iexact H3

/-- What device `c` has of its exchange with device `d` after its own contribution is in place. -/
def moved (c d : Dev nD) : sProp 𝕄 :=
  iprop(pend m c 0 d ∗ pend m c 1 d ∗ (if c = d then iprop(xferPay m c 2 d ∗ xferPay m c 3 d) else iprop(emp)))

/-- Device `c`'s own contribution goes from its source slots to its inbox. -/
theorem own_copy {α : Type} {Q : α → sProp 𝕄} {off : Fin S4x8x64x64.rank → ℕ} (ho : off = ![c.val, 0, 0, 0])
    {off' : Fin S4x8x64.rank → ℕ} (ho' : off' = ![c.val, 0, 0])
    {hb : ∀ a, off a + S1x8x64x64.size a ≤ S4x8x64x64.size a} {hb' : ∀ a, off' a + S1x8x64.size a ≤ S4x8x64.size a}
    {hl : payC.view.LoadsAt (Rect.unit (s := S4x8x64x64) off S1x8x64x64.size hb).toLoadRect}
    {hl₁ : inC.view.LoadsAt (Rect.unit (s := S4x8x64x64) off S1x8x64x64.size hb).toLoadRect}
    {hx : (inC.access (Rect.unit (s := S4x8x64x64) off S1x8x64x64.size hb)).Stores Finset.univ}
    {hm : (Finset.univ : Finset (Rect.unit (s := S4x8x64x64) off S1x8x64x64.size hb).shape.Idx) = Finset.univ ∨ ∀ a, (Rect.unit (s := S4x8x64x64) off S1x8x64x64.size hb).stride a = 1}
    {hl' : payS.view.LoadsAt (Rect.unit (s := S4x8x64) off' S1x8x64.size hb').toLoadRect}
    {hl₁' : inS.view.LoadsAt (Rect.unit (s := S4x8x64) off' S1x8x64.size hb').toLoadRect}
    {hx' : (inS.access (Rect.unit (s := S4x8x64) off' S1x8x64.size hb')).Stores Finset.univ}
    {hm' : (Finset.univ : Finset (Rect.unit (s := S4x8x64) off' S1x8x64.size hb').shape.Idx) = Finset.univ ∨ ∀ a, (Rect.unit (s := S4x8x64) off' S1x8x64.size hb').stride a = 1}
    {k : PUnit → Prog (TpuEff nD τ sig (Elt F) Λ₀ .tc) α} :
    (four (sent m c) : sProp 𝕄)
      ⊢ iprop((four (moved m c) -∗ Runs c (k ⟨⟩) Q)
        -∗ Runs c (.op (.load payC (Rect.unit (s := S4x8x64x64) off S1x8x64x64.size hb).toLoadRect hl) fun x =>
            .op (.load inC (Rect.unit (s := S4x8x64x64) off S1x8x64x64.size hb).toLoadRect hl₁) fun _ =>
            .op (.store inC (Rect.unit (s := S4x8x64x64) off S1x8x64x64.size hb) (k0_pay47 x) Finset.univ hx hm) fun _ =>
            .op (.load payS (Rect.unit (s := S4x8x64) off' S1x8x64.size hb').toLoadRect hl') fun y =>
            .op (.load inS (Rect.unit (s := S4x8x64) off' S1x8x64.size hb').toLoadRect hl₁') fun _ =>
            .op (.store inS (Rect.unit (s := S4x8x64) off' S1x8x64.size hb') (k0_pay48 y) Finset.univ hx' hm') k) Q) := by
  have hf := four_at (sent m c) (moved m c) c fun d hd => Entails.of_eq (by unfold sent moved; rw [if_neg (Ne.symm hd), if_neg (Ne.symm hd)])
  iintro H Hk
  ihave H := hf $$ H
  unfold sent moved pend inb
  rw [if_pos rfl, if_pos rfl, if_pos rfl, if_pos rfl, xfer_0, xfer_1, xfer_2, xfer_3]
  icases H with ⟨⟨HC, HS, HI, HJ⟩, Hr⟩
  iapply (get_C c payC c ho) $$ HC; iintro HC
  iapply (put_C c inC c ho) $$ HI; iintro HI
  iapply (get_S c payS c ho') $$ HS; iintro HS
  iapply (put_S c inS c ho') $$ HJ; iintro HJ
  rw [own_c, own_s]
  iapply Hk; iapply Hr
  isplitl [HC]; · iexact HC
  isplitl [HS]; · iexact HS
  isplitl [HI]; · iexact HI
  iexact HJ

theorem part9_runs :
    iprop(recs m K ∗ levAts L lv ∗ cred (tallyAt (barCell c) () 3) ∗ atPos ER (barCell c) 0 ∅ 0 ∗ ow c (owe c [] [0, 1, 2, 3] [0, 2, 1])
        ∗ four (kept c) ∗ four (raw c) ∗ four (toks c))
      ⊢ Runs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (SemArray.scalar (sig.barrier 0 rfl)) (qV m c) (kV m c) (vV m c) (kcol c)
            (iota .tc S128x256 32 [0] iota_S128x256_d0_w32) 64#32 k0_pay42 k0_pay43 0#32)
          (fun _ => iprop(ow c (owe c [] [] [0, 2, 1]) ∗ semVal (barCell c) 0 ∗ four (fun d => gsl d c) ∗ four (moved m c))) := by
  rw [k0_part9_eq_skeleton]; unfold k0_part9_skel
  rw [show k0_pay44 (iota .tc S128x256 32 [0] iota_S128x256_d0_w32) 64#32 k0_pay42 k0_pay43 0#32 = qrow from rfl]
  iintro ⟨#HR, #HL, Hc, Ha, HO, Hk, ⟨H0, H1, H2, H3⟩, ⟨Ht0, Ht1, Ht2, Ht3⟩⟩
  by_cases h5 : k0_cond5 c = 1#1
  · have h10 : ¬ k0_cond10 c = 1#1 := by revert c; decide
    simp only [dif_pos h5, dif_neg h10, Prog.lift, Prog.bind_op, Prog.bind_ret, Prog.pure_eq_ret]
    icases H0 with ⟨H0, H0'⟩
    icases H3 with ⟨H3, H3'⟩
    iapply (runs_bind c (part1_runs m c)) $$ H0; iintro %r ⟨%hr, H0⟩; subst hr
    iapply (runs_bind c (part2_runs m K c h5 [0, 2, 1])) $$ [Hc Ha HO Hk H0 H0' H1 Ht0 Ht1]
    · isplitr; · iexact HR
      isplitr; · iexact HL
      isplitl [Hc]; · iexact Hc
      isplitl [Ha]; · iexact Ha
      isplitl [HO]; · iexact HO
      isplitl [Hk]; · iexact Hk
      isplitl [H0 H0']; · (isplitl [H0] <;> iassumption)
      isplitl [H1]; · iexact H1
      isplitl [Ht0] <;> iassumption
    iintro %r ⟨%hr, HO, Hz, Hg, Hs0, Hs1, Hi2, Hi3⟩; subst hr
    iapply (runs_bind c (part3_runs m c)) $$ [H2 H3]
    · isplitl [H2] <;> iassumption
    iintro %r ⟨%hr, H2, H3⟩; subst hr
    iapply (put_S c payS 3 rfl) $$ H3'; iintro H3'
    rw [second_s3]
    iapply (exch_if m K c 2 (by revert c; decide) (fun _ => Fin.ext k0_dev9_eq) (fun _ => Fin.ext k0_dev10_eq)
      (fun _ => sem_off 0 2 rfl _ _) (fun _ => sem_off 2 c (k0_off7_eq c) _ _) (fun _ => sem_off 1 2 rfl _ _) (fun _ => sem_off 3 c (k0_off7_eq c) _ _)
      (fun _ => rfl) (fun _ => squeeze_at inC (k0_off8_eq c) _) (fun _ => rfl) (fun _ => squeeze_at inS (k0_off9_eq c) _) [3] [0, 2, 1]) $$ [HO H2 Hi2 Ht2]
    · isplitr; · iexact HR
      isplitl [HO]; · iexact HO
      isplitl [H2]; · iexact H2
      isplitl [Hi2] <;> iassumption
    iintro ⟨HO, Hs2⟩
    iapply (exch_if m K c 3 (by revert c; decide) (fun _ => Fin.ext k0_dev11_eq) (fun _ => Fin.ext k0_dev12_eq)
      (fun _ => sem_off 0 3 rfl _ _) (fun _ => sem_off 2 c (k0_off10_eq c) _ _) (fun _ => sem_off 1 3 rfl _ _) (fun _ => sem_off 3 c (k0_off10_eq c) _ _)
      (fun _ => rfl) (fun _ => squeeze_at inC (k0_off11_eq c) _) (fun _ => rfl) (fun _ => squeeze_at inS (k0_off12_eq c) _) [] [0, 2, 1]) $$ [HO H3 H3' Hi3 Ht3]
    · isplitr; · iexact HR
      isplitl [HO]; · iexact HO
      isplitl [H3 H3']; · (unfold filled; isplitl [H3]; · iexact H3
                           iexact H3')
      isplitl [Hi3] <;> iassumption
    iintro ⟨HO, Hs3⟩
    iapply (own_copy m c (k0_off25_eq c) (k0_off26_eq c)) $$ [Hs0 Hs1 Hs2 Hs3]
    · isplitl [Hs0]; · iexact Hs0
      isplitl [Hs1]; · iexact Hs1
      isplitl [Hs2] <;> iassumption
    iintro Hm
    iapply (runs_ret c)
    isplitl [HO]; · iexact HO
    isplitl [Hz]; · iexact Hz
    isplitl [Hg] <;> iassumption
  · have h10 : k0_cond10 c = 1#1 := by revert c; decide
    simp only [dif_neg h5, dif_pos h10, Prog.lift, Prog.bind_op, Prog.bind_ret, Prog.pure_eq_ret]
    rw [owe_swap]
    icases H2 with ⟨H2, H2'⟩
    icases H1 with ⟨H1, H1'⟩
    iapply (runs_bind c (part4_runs m c)) $$ H2; iintro %r ⟨%hr, H2⟩; subst hr
    iapply (runs_bind c (part5_runs m K c h10 [0, 2, 1])) $$ [Hc Ha HO Hk H2 H2' H3 Ht2 Ht3]
    · isplitr; · iexact HR
      isplitr; · iexact HL
      isplitl [Hc]; · iexact Hc
      isplitl [Ha]; · iexact Ha
      isplitl [HO]; · iexact HO
      isplitl [Hk]; · iexact Hk
      isplitl [H2 H2']; · (isplitl [H2] <;> iassumption)
      isplitl [H3]; · iexact H3
      isplitl [Ht2] <;> iassumption
    iintro %r ⟨%hr, HO, Hz, Hg, Hs2, Hs3, Hi0, Hi1⟩; subst hr
    iapply (runs_bind c (part6_runs m c)) $$ [H0 H1]
    · isplitl [H0] <;> iassumption
    iintro %r ⟨%hr, H0, H1⟩; subst hr
    iapply (put_S c payS 1 rfl) $$ H1'; iintro H1'
    rw [second_s1]
    iapply (exch_if m K c 0 (by revert c; decide) (fun _ => Fin.ext k0_dev17_eq) (fun _ => Fin.ext k0_dev18_eq)
      (fun _ => sem_off 0 0 rfl _ _) (fun _ => sem_off 2 c (k0_off19_eq c) _ _) (fun _ => sem_off 1 0 rfl _ _) (fun _ => sem_off 3 c (k0_off19_eq c) _ _)
      (fun _ => rfl) (fun _ => squeeze_at inC (k0_off20_eq c) _) (fun _ => rfl) (fun _ => squeeze_at inS (k0_off21_eq c) _) [1] [0, 2, 1]) $$ [HO H0 Hi0 Ht0]
    · isplitr; · iexact HR
      isplitl [HO]; · iexact HO
      isplitl [H0]; · iexact H0
      isplitl [Hi0] <;> iassumption
    iintro ⟨HO, Hs0⟩
    iapply (exch_if m K c 1 (by revert c; decide) (fun _ => Fin.ext k0_dev19_eq) (fun _ => Fin.ext k0_dev20_eq)
      (fun _ => sem_off 0 1 rfl _ _) (fun _ => sem_off 2 c (k0_off22_eq c) _ _) (fun _ => sem_off 1 1 rfl _ _) (fun _ => sem_off 3 c (k0_off22_eq c) _ _)
      (fun _ => rfl) (fun _ => squeeze_at inC (k0_off23_eq c) _) (fun _ => rfl) (fun _ => squeeze_at inS (k0_off24_eq c) _) [] [0, 2, 1]) $$ [HO H1 H1' Hi1 Ht1]
    · isplitr; · iexact HR
      isplitl [HO]; · iexact HO
      isplitl [H1 H1']; · (unfold filled; isplitl [H1]; · iexact H1
                           iexact H1')
      isplitl [Hi1] <;> iassumption
    iintro ⟨HO, Hs1⟩
    iapply (own_copy m c (k0_off25_eq c) (k0_off26_eq c)) $$ [Hs0 Hs1 Hs2 Hs3]
    · isplitl [Hs0]; · iexact Hs0
      isplitl [Hs1]; · iexact Hs1
      isplitl [Hs2] <;> iassumption
    iintro Hm
    iapply (runs_ret c)
    isplitl [HO]; · iexact HO
    isplitl [Hz]; · iexact Hz
    isplitl [Hg] <;> iassumption

end Parts

end Cert.KernelIdeal.Hand

end
-- ==== Proof.KernelIdeal.BodyC.lean ====
/-
The kernel's body on device `c`, part by part: the contexts and the gather.
-/
module

public import proofs.«01_k».proof.Proof.KernelIdeal.BodyB
public import Idealize.ShloMosaic.Lib.MemrefSat

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

/-- The four devices counted from the one before `c` backwards. -/
def bwdE (c : Dev nD) : Fin 4 ≃ Dev nD := Equiv.ofBijective (bwd c) ((Finite.injective_iff_bijective (f := bwd c)).1 (bwd_inj c))
/-- The four devices counted from the one after `c` onwards. -/
def fwdE (c : Dev nD) : Fin 4 ≃ Dev nD where
  toFun := fwd c
  invFun d := gap d c
  left_inv t := gap_fwd c t
  right_inv d := fwd_gap c d

omit [FloatOps F] in
theorem four_equiv (e : Fin 4 ≃ Dev nD) (Φ : Dev nD → sProp 𝕄) : four Φ = four (fun t => Φ (e t)) := by
  rw [← four_eq, ← four_eq]; exact bigSep_univ_equiv e Φ

omit [FloatOps F] in
theorem four_sep (Φ Ψ : Fin 4 → sProp 𝕄) : (four (fun d => iprop(Φ d ∗ Ψ d)) : sProp 𝕄) = iprop(four Φ ∗ four Ψ) := by
  rw [← four_eq, ← four_eq, ← four_eq, ← bigSep_sep']

omit [FloatOps F] in
theorem four_mono {Φ Ψ : Fin 4 → sProp 𝕄} (h : ∀ d, Φ d ⊢ Ψ d) : (four Φ : sProp 𝕄) ⊢ four Ψ := by
  have h' : (bigSep Finset.univ Φ : sProp 𝕄) ⊢ bigSep Finset.univ Ψ := bigSep_mono fun d _ => h d
  rwa [four_eq, four_eq] at h'

section Parts
variable (c : Dev nD)

/-- The credits of the two transfers that device `d` sends device `c`. -/
def owed (d : Dev nD) : sProp 𝕄 :=
  if c = d then iprop(emp) else iprop(cred (tallyAt (xCell c 2 d) () NC) ∗ cred (tallyAt (xCell c 3 d) () NS))

/-- The two copies to device `d`, still to be waited for. -/
def outgo (d : Dev nD) : sProp 𝕄 := iprop(pend m c 0 d ∗ pend m c 1 d)
/-- What device `d` contributed is in the inbox of device `c`, its semaphores back at zero. -/
def got (d : Dev nD) : sProp 𝕄 :=
  iprop((owns (c : Thread nD τ) (slotC inC d) fullShare (cV m d c) ∗ owns (c : Thread nD τ) (slotS inS d) fullShare (sV m d c))
    ∗ semVal (xCell c 2 d) 0 ∗ semVal (xCell c 3 d) 0)
/-- The places of two of device `c`'s transfer semaphores in their schedule. -/
def places (f g : Fin 6) (d : Dev nD) : sProp 𝕄 := iprop(atPos ER (xCell c f d) 0 ∅ 0 ∗ atPos ER (xCell c g d) 0 ∅ 0)

theorem moved_owed (d : Dev nD) : iprop(moved m c d ∗ owed c d) ⊢ (iprop(outgo m c d ∗ (pend m c 2 d ∗ pend m c 3 d)) : sProp 𝕄) := by
  have h2 : amt 2 = NC := rfl
  have h3 : amt 3 = NS := rfl
  unfold moved owed outgo pend
  by_cases h : c = d
  · rw [if_pos h, if_pos h, if_pos h, if_pos h, if_pos h, if_pos h]
    iintro ⟨⟨H0, H1, H2, H3⟩, -⟩
    isplitl [H0 H1]; · (isplitl [H0] <;> iassumption)
    isplitl [H2] <;> iassumption
  · rw [if_neg h, if_neg h, if_neg h, if_neg h, if_neg h, if_neg h, h2, h3]
    iintro ⟨⟨H0, H1, -⟩, H2, H3⟩
    isplitl [H0 H1]; · (isplitl [H0] <;> iassumption)
    isplitl [H2] <;> iassumption

theorem zs_set {s : Shape} {e : EltTy} (M : Memref sig .tc .vmem s e) : (M.view.slice (Rect.whole s)).set = M.view.set := by rw [View.set_slice, Rect.set_whole]; rfl

theorem zs_read {s : Shape} {e : EltTy} (M : Memref sig .tc .vmem s e) (f : M.view.ty.Contents (Elt F)) : (M.view.slice (Rect.whole s)).read (Elt F) f = M.view.read (Elt F) f :=
  funext fun x => by
    show _root_.cast _ (f (M.view.emb ((Rect.whole s).emb x))) = _
    rw [Rect.emb_whole_apply]; rfl
theorem zs_rect {s : Shape}  {off : Fin s.rank → ℕ} (ho : off = fun _ => 0)
    (hb : ∀ a, off a + s.size a ≤ s.size a) : Rect.unit off s.size hb = Rect.whole s := by subst ho; rfl

theorem owns_whole_slice {s : Shape} {e : EltTy} (M : Memref sig .tc .vmem s e) (hr) (q : PosShare TreeShare) (X : s.Idx → Elt F e) :
    (owns (c : Thread nD τ) (M.slice (Rect.whole s) hr) q X : sProp 𝕄) = owns (c : Thread nD τ) M q X := by
  have h₁ := zs_set (e := e) M
  have h₂ := fun f => zs_read (F := F) M f
  have h₃ : ∀ f, (((M.slice (Rect.whole s) hr).view.loc (c : Thread nD τ)) ↦[(M.slice (Rect.whole s) hr).view.set]{q} f : sProp 𝕄) = (M.view.loc (c : Thread nD τ) ↦[M.view.set]{q} f) := fun f => by
    rw [← h₁]
  have h₄ : ∀ f, ((M.slice (Rect.whole s) hr).view.read (Elt F) f = X) = (M.view.read (Elt F) f = X) := fun f => by rw [← h₂ f]
  unfold owns
  refine congrArg _ (funext fun f => ?_)
  rw [← h₃ f, ← h₄ f]

theorem put_whole {α : Type} {Q : α → sProp 𝕄} {s : Shape} {e : EltTy} (M : Memref sig .tc .vmem s e) {hl hx hm}
    {w : (Rect.whole s).shape.Idx → Elt F e} {k : PUnit → Prog (TpuEff nD τ sig (Elt F) Λ₀ .tc) α} :
    (iprop(∃ X, owns (c : Thread nD τ) M fullShare X) : sProp 𝕄)
      ⊢ iprop((owns (c : Thread nD τ) M fullShare w -∗ Runs c (k ⟨⟩) Q)
          -∗ Runs c (.op (.load M (Rect.whole s).toLoadRect hl) (fun _ => .op (.store M (Rect.whole s) w Finset.univ hx hm) k)) Q) := by
  iintro ⟨%X, H⟩ Hk
  ihave H := (Entails.of_eq (owns_whole_slice c M (fun _ => rfl) fullShare X).symm) $$ H
  iapply (load_rect c M _ _) $$ H
  iintro H
  iapply (store_rect c M _ (fun _ => rfl)) $$ [H]
  · iexists X; iexact H
  iintro H
  ihave H := (Entails.of_eq (owns_whole_slice c M (fun _ => rfl) fullShare w)) $$ H
  iapply Hk $$ H

theorem put_full {α : Type} {Q : α → sProp 𝕄} {s : Shape} {e : EltTy} (M : Memref sig .tc .vmem s e) {off : Fin s.rank → ℕ} (ho : off = fun _ => 0)
    {hb : ∀ a, off a + s.size a ≤ s.size a} {hl : M.view.LoadsAt (Rect.unit off s.size hb).toLoadRect}
    {hx : (M.access (Rect.unit off s.size hb)).Stores Finset.univ}
    {hm : (Finset.univ : Finset (Rect.unit off s.size hb).shape.Idx) = Finset.univ ∨ ∀ a, (Rect.unit off s.size hb).stride a = 1}
    {w : s.Idx → Elt F e} {k : PUnit → Prog (TpuEff nD τ sig (Elt F) Λ₀ .tc) α} :
    (iprop(∃ X, owns (c : Thread nD τ) M fullShare X) : sProp 𝕄)
      ⊢ iprop((owns (c : Thread nD τ) M fullShare w -∗ Runs c (k ⟨⟩) Q)
          -∗ Runs c (.op (.load M (Rect.unit off s.size hb).toLoadRect hl)
              (fun _ => .op (.store M (Rect.unit off s.size hb) w Finset.univ hx hm) k)) Q) := by
  subst ho; exact put_whole c M
omit [FloatOps F] in
/-- A memref held whole is held in the three shares that the copies of the gather borrow. -/
theorem owns_three {s : Shape} {e : EltTy} (M : Memref sig .tc .vmem s e) (X : s.Idx → Elt F e) :
    (owns (c : Thread nD τ) M fullShare X : sProp 𝕄)
      ⊣⊢ iprop(owns (c : Thread nD τ) M (shr 0) X ∗ owns (c : Thread nD τ) M (shr 1) X ∗ owns (c : Thread nD τ) M (shr 2) X) := by
  constructor
  · iintro H
    ihave H := (owns_halves (c : Thread nD τ) M fullShare X).1 $$ H
    icases H with ⟨H1, H2⟩
    ihave H2 := (owns_halves (c : Thread nD τ) M fullShare.right X).1 $$ H2
    icases H2 with ⟨H2, H3⟩
    isplitl [H1]; · iexact H1
    isplitl [H2]; · iexact H2
    iexact H3
  · iintro ⟨H1, H2, H3⟩
    iapply (owns_halves (c : Thread nD τ) M fullShare X).2
    isplitl [H1]; · iexact H1
    iapply (owns_halves (c : Thread nD τ) M fullShare.right X).2
    isplitl [H2]; · iexact H2
    iexact H3

theorem moved_all :
    (iprop(four (moved m c) ∗ four (owed c)) : sProp 𝕄) ⊢ iprop(four (outgo m c) ∗ four (fun d => iprop(pend m c 2 d ∗ pend m c 3 d))) := by
  rw [← four_sep, ← four_sep]; exact four_mono (moved_owed m c)

theorem part10_runs (G : List (Fin 4)) :
    iprop(recs m K ∗ levAts L lv ∗ ow c (owe c [] [] G) ∗ four (moved m c) ∗ four (owed c) ∗ four (places c 2 3)
        ∗ has c (Memref.whole cc0_stg4_0) (aO m c))
      ⊢ Runs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (devW c))
          (fun r => iprop(⌜r = ⟨k0_pay49 (aO m c), denV m c, k0_pay51 (cV m 0 c)⟩⌝
            ∗ ow c (owe c [] [] G) ∗ four (outgo m c) ∗ four (got m c) ∗ has c (Memref.whole cc0_stg4_0) (aO m c))) := by
  rw [k0_part10_eq_skeleton]; unfold k0_part10_skel
  simp only [Prog.lift, Prog.bind_op, Prog.bind_ret, Prog.pure_eq_ret]
  iintro ⟨#HR, #HL, HO, Hm, Ho, Ha, H4⟩
  ihave H := (moved_all m c) $$ [Hm Ho]
  · isplitl [Hm] <;> iassumption
  unfold places
  icases Ha with ⟨⟨Ha0, Hb0⟩, ⟨Ha1, Hb1⟩, ⟨Ha2, Hb2⟩, ⟨Ha3, Hb3⟩⟩
  icases H with ⟨Hout, ⟨Hp0, Hq0⟩, ⟨Hp1, Hq1⟩, ⟨Hp2, Hq2⟩, ⟨Hp3, Hq3⟩⟩
  iapply (load_full c (Memref.whole cc0_stg4_0) hz2) $$ H4; iintro H4
  iapply (waits_if m K c 0 (by revert c; decide) 2 3 (by decide) (by decide) (fun _ => sem_off 2 0 rfl _ _) (fun _ => sem_off 3 0 rfl _ _)
    (dst := fun _ => (slotC inC 0).squeeze S8x64x64 squeezes_S1x8x64x64_S8x64x64) (dst' := fun _ => (slotS inS 0).squeeze S8x64 squeezes_S1x8x64_S8x64)
    (fun _ => rfl) (fun _ => rfl) G) $$ [HO Hp0 Hq0 Ha0 Hb0]
  · isplitr; · iexact HR
    isplitr; · iexact HL
    isplitl [HO]; · iexact HO
    isplitl [Hp0]; · iexact Hp0
    isplitl [Hq0]; · iexact Hq0
    isplitl [Ha0] <;> iassumption
  iintro ⟨HO, Hp0, Hq0, Hx0, Hy0⟩
  iapply (waits_if m K c 1 (by revert c; decide) 2 3 (by decide) (by decide) (fun _ => sem_off 2 1 rfl _ _) (fun _ => sem_off 3 1 rfl _ _)
    (dst := fun _ => (slotC inC 1).squeeze S8x64x64 squeezes_S1x8x64x64_S8x64x64) (dst' := fun _ => (slotS inS 1).squeeze S8x64 squeezes_S1x8x64_S8x64)
    (fun _ => rfl) (fun _ => rfl) G) $$ [HO Hp1 Hq1 Ha1 Hb1]
  · isplitr; · iexact HR
    isplitr; · iexact HL
    isplitl [HO]; · iexact HO
    isplitl [Hp1]; · iexact Hp1
    isplitl [Hq1]; · iexact Hq1
    isplitl [Ha1] <;> iassumption
  iintro ⟨HO, Hp1, Hq1, Hx1, Hy1⟩
  iapply (waits_if m K c 2 (by revert c; decide) 2 3 (by decide) (by decide) (fun _ => sem_off 2 2 rfl _ _) (fun _ => sem_off 3 2 rfl _ _)
    (dst := fun _ => (slotC inC 2).squeeze S8x64x64 squeezes_S1x8x64x64_S8x64x64) (dst' := fun _ => (slotS inS 2).squeeze S8x64 squeezes_S1x8x64_S8x64)
    (fun _ => rfl) (fun _ => rfl) G) $$ [HO Hp2 Hq2 Ha2 Hb2]
  · isplitr; · iexact HR
    isplitr; · iexact HL
    isplitl [HO]; · iexact HO
    isplitl [Hp2]; · iexact Hp2
    isplitl [Hq2]; · iexact Hq2
    isplitl [Ha2] <;> iassumption
  iintro ⟨HO, Hp2, Hq2, Hx2, Hy2⟩
  iapply (waits_if m K c 3 (by revert c; decide) 2 3 (by decide) (by decide) (fun _ => sem_off 2 3 rfl _ _) (fun _ => sem_off 3 3 rfl _ _)
    (dst := fun _ => (slotC inC 3).squeeze S8x64x64 squeezes_S1x8x64x64_S8x64x64) (dst' := fun _ => (slotS inS 3).squeeze S8x64 squeezes_S1x8x64_S8x64)
    (fun _ => rfl) (fun _ => rfl) G) $$ [HO Hp3 Hq3 Ha3 Hb3]
  · isplitr; · iexact HR
    isplitr; · iexact HL
    isplitl [HO]; · iexact HO
    isplitl [Hp3]; · iexact Hp3
    isplitl [Hq3]; · iexact Hq3
    isplitl [Ha3] <;> iassumption
  iintro ⟨HO, Hp3, Hq3, Hx3, Hy3⟩
  ihave Hp0 := (Entails.of_eq (xfer_2 m c 0)) $$ Hp0
  ihave Hq0 := (Entails.of_eq (xfer_3 m c 0)) $$ Hq0
  ihave Hp1 := (Entails.of_eq (xfer_2 m c 1)) $$ Hp1
  ihave Hq1 := (Entails.of_eq (xfer_3 m c 1)) $$ Hq1
  ihave Hp2 := (Entails.of_eq (xfer_2 m c 2)) $$ Hp2
  ihave Hq2 := (Entails.of_eq (xfer_3 m c 2)) $$ Hq2
  ihave Hp3 := (Entails.of_eq (xfer_2 m c 3)) $$ Hp3
  ihave Hq3 := (Entails.of_eq (xfer_3 m c 3)) $$ Hq3
  iapply (get_S c inS 0 rfl) $$ Hq0; iintro Hq0
  iapply (get_S c inS 1 rfl) $$ Hq1; iintro Hq1
  iapply (get_S c inS 2 rfl) $$ Hq2; iintro Hq2
  iapply (get_S c inS 3 rfl) $$ Hq3; iintro Hq3
  iapply (get_C c inC 0 rfl) $$ Hp0; iintro Hp0
  iapply (runs_ret c)
  isplitr; · (ipureintro; rfl)
  isplitl [HO]; · iexact HO
  isplitl [Hout]; · iexact Hout
  isplitr [H4]
  · unfold got
    isplitl [Hp0 Hq0 Hx0 Hy0]
    · isplitl [Hp0 Hq0]; · (isplitl [Hp0] <;> iassumption)
      isplitl [Hx0] <;> iassumption
    isplitl [Hp1 Hq1 Hx1 Hy1]
    · isplitl [Hp1 Hq1]; · (isplitl [Hp1] <;> iassumption)
      isplitl [Hx1] <;> iassumption
    isplitl [Hp2 Hq2 Hx2 Hy2]
    · isplitl [Hp2 Hq2]; · (isplitl [Hp2] <;> iassumption)
      isplitl [Hx2] <;> iassumption
    isplitl [Hp3 Hq3]; · (isplitl [Hp3] <;> iassumption)
    isplitl [Hx3] <;> iassumption
  iexact H4

theorem part11_runs :
    (iprop(four (got m c) ∗ (∃ X, owns (c : Thread nD τ) stage fullShare X)) : sProp 𝕄)
      ⊢ Runs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 (devW c) (denV m c) (k0_pay51 (cV m 0 c)))
          (fun r => iprop(⌜r.1 = ctx32 m c⌝ ∗ four (got m c) ∗ owns (c : Thread nD τ) stage fullShare (ctx16 m c))) := by
  rw [k0_part11_eq_skeleton]; unfold k0_part11_skel
  simp only [Prog.lift, Prog.bind_op, Prog.bind_ret, Prog.pure_eq_ret]
  unfold got
  iintro ⟨⟨H0, ⟨⟨HC1, HS1⟩, Hz1⟩, ⟨⟨HC2, HS2⟩, Hz2⟩, ⟨⟨HC3, HS3⟩, Hz3⟩⟩, Hst⟩
  iapply (get_C c inC 1 rfl) $$ HC1; iintro HC1
  iapply (get_C c inC 2 rfl) $$ HC2; iintro HC2
  iapply (get_C c inC 3 rfl) $$ HC3; iintro HC3
  iapply (put_full c stage hz3) $$ Hst; iintro Hst
  iapply (runs_ret c)
  isplitr; · (ipureintro; rfl)
  isplitr [Hst]
  · isplitl [H0]; · iexact H0
    isplitl [HC1 HS1 Hz1]; · (isplitl [HC1 HS1]; · (isplitl [HC1] <;> iassumption)
                              iexact Hz1)
    isplitl [HC2 HS2 Hz2]; · (isplitl [HC2 HS2]; · (isplitl [HC2] <;> iassumption)
                              iexact Hz2)
    isplitl [HC3 HS3]; · (isplitl [HC3] <;> iassumption)
    iexact Hz3
  iexact Hst

end Parts

end Cert.KernelIdeal.Hand

end
-- ==== Proof.KernelIdeal.BodyD.lean ====
/-
The kernel's body on device `c`, part by part: the gather and the result.
-/
module

public import proofs.«01_k».proof.Proof.KernelIdeal.BodyC

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

section Parts
variable (c : Dev nD)

/-! ## The gather's three copies -/

/-- The tokens of the gather's copy to the device `t + 1` places on. -/
def gtok (t : Fin 4) : sProp 𝕄 := iprop(dutyTok ER (xCell c 4 t) 0 0 ∗ dutyTok ER (xCell (fwd c t) 5 t) 0 0)

theorem used_gath : ∀ (c : Dev nD) (t : Fin 4), t ≠ 3 → used c 4 t ∧ used c 5 t := by decide

theorem owe_gath (t : Fin 4) (ht : t ≠ 3) (G : List (Fin 4)) :
    owe c [] [] (t :: G) = owe c [] [] G + tallyAt (xCell (fwd c t) 5 t) () (amt 5) := by
  rw [owe_G]; unfold owG; rw [if_neg ht]; rfl

theorem gV_squeezed : ctx16 m c = fun y => gV m c (Shape.reshapeEquiv squeezes_S1x2x64x256_S2x64x256.numel_eq y) :=
  funext fun y => by unfold gV; rw [Equiv.symm_apply_apply]

/-- The copy of the staged context to the device `t + 1` places on. -/
theorem gath_send {α : Type} {Q : α → sProp 𝕄} (t : Fin 4) (ht : t ≠ 3) {n : Dev nD} (hn : n = fwd c t) {qs qr : DmaSem sig}
    (hqs : qs = xsem 4 t) (hqr : qr = xsem 5 t) {dst : Memref sig .tc .vmem S2x64x256 .bf16}
    (hd : dst = (slotG t).squeeze S2x64x256 squeezes_S1x2x64x256_S2x64x256)
    {hsc h₁ h₂ h₃} {k : PUnit → Prog (TpuEff nD τ sig (Elt F) Λ₀ .tc) α} (G : List (Fin 4)) :
    iprop(recs m K ∗ ow c (owe c [] [] (t :: G)) ∗ owns (c : Thread nD τ) stage (shr t) (ctx16 m c) ∗ gsl (fwd c t) c ∗ gtok c t)
      ⊢ iprop((ow c (owe c [] [] G) ∗ cred (tallyAt (xCell c 4 t) () (amt 4)) -∗ Runs c (k ⟨⟩) Q)
          -∗ Runs c (.op (.enqueueDma stage (.remote (Dev.tc n : Thread nD τ) dst (.dma qs) hsc) (.dma qr) h₁ h₂ h₃) k) Q) := by
  rw [owe_gath c t ht]
  unfold gsl gtok
  rw [gap_fwd]
  iintro ⟨#HR, HO, Hs, ⟨%Y, Hd⟩, Ht, Ht'⟩ Hk
  iapply (send_step m K c (fwd c t) 4 5 t t (used_gath c t ht).1 (used_gath (fwd c t) t ht).2 rfl hn hqs hqr rfl hd
    rfl (q := shr t) (X := ctx16 m c) (Entails.of_eq rfl)
    (by
      rw [xfer_5, bwd_fwd, ← owns_squeeze _ _ squeezes_S1x2x64x256_S2x64x256]
      rw [← gV_squeezed])
    (owe c [] [] G)) $$ [HO Hs Hd Ht Ht']
  · isplitr; · iexact HR
    isplitl [Hs]; · iexact Hs
    isplitl [Hd]; · (iapply (owns_squeeze_ex (fwd c t)) $$ Hd)
    isplitl [HO]; · iexact HO
    isplitl [Ht] <;> iassumption
  iintro ⟨Hc, HO⟩
  iapply Hk
  isplitl [HO] <;> iassumption

/-! ## The result's blocks -/

/-- The block of the result for the device `t + 1` places back, holding anything. -/
def ofree (t : Fin 4) : sProp 𝕄 := iprop(∃ X, owns (c : Thread nD τ) (slotO (bwd c t)) fullShare X)
/-- The same block, written. -/
def ofull (t : Fin 4) : sProp 𝕄 := owns (c : Thread nD τ) (slotO (bwd c t)) fullShare (outSl m c (bwd c t))

theorem out_own : outSl m c (bwd c 3) = k0_pay54 (k0_pay49 (aO m c)) (ctx32 m c) := by
  rw [bwd_three]; unfold outSl; rw [if_pos rfl]
theorem bwd_ne : ∀ (c : Dev nD) (t : Fin 4), t ≠ 3 → bwd c t ≠ c := by decide
theorem out_other (t : Fin 4) (ht : t ≠ 3) : outSl m c (bwd c t) = k0_pay55 (k0_pay49 (aO m c)) (gV m (bwd c t)) := by
  unfold outSl; rw [if_neg (bwd_ne c t ht)]

theorem dev_0 : ∀ c : Dev nD, k0_dev21 c = (fwd c 0).val := by decide
theorem dev_2 : ∀ c : Dev nD, k0_dev22 c = (fwd c 2).val := by decide
theorem dev_1 : ∀ c : Dev nD, k0_dev23 c = (fwd c 1).val := by decide
theorem off_own : ∀ c : Dev nD, k0_off27 c = ![0, 64 * (bwd c 3).val, 0] := by decide
theorem off_0 : ∀ c : Dev nD, k0_off28 c 1#32 = ![0, 64 * (bwd c 0).val, 0] := by decide
theorem off_2 : ∀ c : Dev nD, k0_off28 c 3#32 = ![0, 64 * (bwd c 2).val, 0] := by decide
theorem off_1 : ∀ c : Dev nD, k0_off28 c 2#32 = ![0, 64 * (bwd c 1).val, 0] := by decide

/-- The gather's arrival `t`, still to be waited for, with its semaphore's place. -/
def due (t : Fin 4) : sProp 𝕄 := iprop(cred (tallyAt (xCell c 5 t) () (amt 5)) ∗ atPos ER (xCell c 5 t) 0 ∅ 0)
/-- The gather's arrival `t`, in its slot. -/
def came (t : Fin 4) : sProp 𝕄 := iprop(semVal (xCell c 5 t) 0 ∗ owns (c : Thread nD τ) (slotG t) fullShare (gV m (bwd c t)))

theorem gath_wait {α : Type} {Q : α → sProp 𝕄} (t : Fin 4) (ht : t ≠ 3) {q : DmaSem sig} (hq : q = xsem 5 t)
    {s s' : Shape} {e e' : EltTy} {src : Memref sig .tc .vmem s e} {dst : Memref sig .tc .vmem s' e'} {h₁ h₂}
    {k : PUnit → Prog (TpuEff nD τ sig (Elt F) Λ₀ .tc) α} (hN : dst.view.dmaCredit = amt 5) :
    iprop(recs m K ∗ levAts L lv ∗ ow c (owe c [] [] []) ∗ due c t)
      ⊢ iprop((ow c (owe c [] [] []) ∗ came m c t -∗ Runs c (k ⟨⟩) Q) -∗ Runs c (.op (.waitDma2 q src dst h₁ h₂) k) Q) := by
  unfold due came
  iintro ⟨#HR, #HL, HO, Hc, Ha⟩ Hk
  iapply (wait_step m K c 5 t (used_gath c t ht).2 hq hN [] (fun _ => rfl)) $$ [HO Hc Ha]
  · isplitr; · iexact HR
    isplitr; · iexact HL
    isplitl [Hc]; · iexact Hc
    isplitl [HO] <;> iassumption
  iintro ⟨HO, Hz, Hp⟩
  ihave Hp := (Entails.of_eq (xfer_5 m c t)) $$ Hp
  iapply Hk
  isplitl [HO]; · iexact HO
  isplitl [Hz] <;> iassumption

/-- The staged context's share `t`, lent to its copy. -/
def lent (t : Fin 4) : sProp 𝕄 := cred (tallyAt (xCell c 4 t) () (amt 4))

theorem part12_runs (v180 : BitVec 32) :
    iprop(recs m K ∗ ow c (owe c [] [] [0, 2, 1]) ∗ owns (c : Thread nD τ) stage (shr 0) (ctx16 m c) ∗ owns (c : Thread nD τ) stage (shr 2) (ctx16 m c)
        ∗ gsl (fwd c 0) c ∗ gsl (fwd c 2) c ∗ gtok c 0 ∗ gtok c 2)
      ⊢ Runs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) v180) (fun _ => iprop(ow c (owe c [] [] [1]) ∗ lent c 0 ∗ lent c 2)) := by
  rw [k0_part12_eq_skeleton]; unfold k0_part12_skel
  simp only [Prog.lift, Prog.bind_op, Prog.bind_ret, Prog.pure_eq_ret]
  iintro ⟨#HR, HO, Hs0, Hs2, Hg0, Hg2, Ht0, Ht2⟩
  iapply (gath_send m K c 0 (by decide) (Fin.ext (dev_0 c)) (sem_off 4 0 rfl _ _) (sem_off 5 0 rfl _ _) rfl [2, 1]) $$ [HO Hs0 Hg0 Ht0]
  · isplitr; · iexact HR
    isplitl [HO]; · iexact HO
    isplitl [Hs0]; · iexact Hs0
    isplitl [Hg0] <;> iassumption
  iintro ⟨HO, Hc0⟩
  iapply (gath_send m K c 2 (by decide) (Fin.ext (dev_2 c)) (sem_off 4 2 rfl _ _) (sem_off 5 2 rfl _ _) rfl [1]) $$ [HO Hs2 Hg2 Ht2]
  · isplitr; · iexact HR
    isplitl [HO]; · iexact HO
    isplitl [Hs2]; · iexact Hs2
    isplitl [Hg2] <;> iassumption
  iintro ⟨HO, Hc2⟩
  iapply (runs_ret c)
  unfold lent
  isplitl [HO]; · iexact HO
  isplitl [Hc0] <;> iassumption

theorem part13_runs (v210 v211 : BitVec 32) :
    iprop(recs m K ∗ ow c (owe c [] [] [1]) ∗ owns (c : Thread nD τ) stage (shr 1) (ctx16 m c) ∗ gsl (fwd c 1) c ∗ gtok c 1 ∗ ofree c 3)
      ⊢ Runs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (k0_pay49 (aO m c)) (ctx32 m c) v210 v211)
          (fun _ => iprop(ow c (owe c [] [] []) ∗ lent c 1 ∗ ofull m c 3)) := by
  rw [k0_part13_eq_skeleton]; unfold k0_part13_skel ofree ofull
  simp only [Prog.lift, Prog.bind_op, Prog.bind_ret, Prog.pure_eq_ret]
  rw [out_own]
  iintro ⟨#HR, HO, Hs, Hg, Ht, Hf⟩
  iapply (gath_send m K c 1 (by decide) (Fin.ext (dev_1 c)) (sem_off 4 1 rfl _ _) (sem_off 5 1 rfl _ _) rfl []) $$ [HO Hs Hg Ht]
  · isplitr; · iexact HR
    isplitl [HO]; · iexact HO
    isplitl [Hs]; · iexact Hs
    isplitl [Hg] <;> iassumption
  iintro ⟨HO, Hc⟩
  iapply (put_O c (bwd c 3) (off_own c)) $$ Hf; iintro Hf
  iapply (runs_ret c)
  unfold lent
  isplitl [HO]; · iexact HO
  isplitl [Hc] <;> iassumption

theorem part14_runs (v245 : BitVec 32) :
    iprop(recs m K ∗ levAts L lv ∗ ow c (owe c [] [] []) ∗ due c 0 ∗ ofree c 0)
      ⊢ Runs c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (k0_pay49 (aO m c)) v245)
          (fun _ => iprop(ow c (owe c [] [] []) ∗ came m c 0 ∗ ofull m c 0)) := by
  rw [k0_part14_eq_skeleton]; unfold k0_part14_skel ofree ofull
  simp only [Prog.lift, Prog.bind_op, Prog.bind_ret, Prog.pure_eq_ret]
  rw [out_other m c 0 (by decide)]
  iintro ⟨#HR, #HL, HO, Hd, Hf⟩
  iapply (gath_wait m K c 0 (by decide) (sem_off 5 0 rfl _ _)
    (dst := (slotG 0).squeeze S2x64x256 squeezes_S1x2x64x256_S2x64x256) rfl) $$ [HO Hd]
  · isplitr; · iexact HR
    isplitr; · iexact HL
    isplitl [HO] <;> iassumption
  unfold came
  iintro ⟨HO, Hz, Hg⟩
  iapply (get_G c 0 rfl) $$ Hg; iintro Hg
  iapply (put_O c (bwd c 0) (off_0 c)) $$ Hf; iintro Hf
  iapply (runs_ret c)
  isplitl [HO]; · iexact HO
  isplitl [Hz Hg]; · (isplitl [Hz] <;> iassumption)
  iexact Hf

theorem part15_runs (v271 : BitVec 32) :
    iprop(recs m K ∗ levAts L lv ∗ ow c (owe c [] [] []) ∗ due c 2 ∗ due c 1 ∗ ofree c 2)
      ⊢ Runs c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c (devW c) (k0_pay49 (aO m c)) v271)
          (fun _ => iprop(ow c (owe c [] [] []) ∗ came m c 2 ∗ came m c 1 ∗ ofull m c 2)) := by
  rw [k0_part15_eq_skeleton]; unfold k0_part15_skel ofree ofull
  simp only [Prog.lift, Prog.bind_op, Prog.bind_ret, Prog.pure_eq_ret]
  rw [out_other m c 2 (by decide)]
  iintro ⟨#HR, #HL, HO, Hd, Hd', Hf⟩
  iapply (gath_wait m K c 2 (by decide) (sem_off 5 2 rfl _ _)
    (dst := (slotG 2).squeeze S2x64x256 squeezes_S1x2x64x256_S2x64x256) rfl) $$ [HO Hd]
  · isplitr; · iexact HR
    isplitr; · iexact HL
    isplitl [HO] <;> iassumption
  unfold came
  iintro ⟨HO, Hz, Hg⟩
  iapply (get_G c 2 rfl) $$ Hg; iintro Hg
  iapply (put_O c (bwd c 2) (off_2 c)) $$ Hf; iintro Hf
  iapply (gath_wait m K c 1 (by decide) (sem_off 5 1 rfl _ _)
    (dst := (slotG 1).squeeze S2x64x256 squeezes_S1x2x64x256_S2x64x256) rfl) $$ [HO Hd']
  · isplitr; · iexact HR
    isplitr; · iexact HL
    isplitl [HO] <;> iassumption
  iintro ⟨HO, Hd'⟩
  iapply (runs_ret c)
  unfold came
  isplitl [HO]; · iexact HO
  isplitl [Hz Hg]; · (isplitl [Hz] <;> iassumption)
  isplitl [Hd']; · iexact Hd'
  iexact Hf

end Parts

end Cert.KernelIdeal.Hand

end
-- ==== Proof.KernelIdeal.BodyE.lean ====
/-
The kernel's body on device `c`, from its first statement to its last.
-/
module

public import proofs.«01_k».proof.Proof.KernelIdeal.BodyD

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 6 × Fin 4) → ℕ)

section Parts
variable (c : Dev nD)

/-! ## What the body starts from and what it leaves -/

/-- The five inputs in their staging buffers. -/
def ins : sProp 𝕄 :=
  iprop(has c (Memref.whole cc0_stg0_0) (aX m c) ∗ has c (Memref.whole cc0_stg1_0) (aQ m c) ∗ has c (Memref.whole cc0_stg2_0) (aK m c)
    ∗ has c (Memref.whole cc0_stg3_0) (aV m c) ∗ has c (Memref.whole cc0_stg4_0) (aO m c))

/-- The places of device `c`'s semaphores in their schedule. -/
def spots : sProp 𝕄 :=
  iprop(atPos ER (barCell c) 0 ∅ 0 ∗ four (places c 0 1) ∗ four (places c 2 3) ∗ four (places c 4 5))

/-- Every token that device `c` pays with. -/
def dues : sProp 𝕄 :=
  iprop(four (fun d => dutyTok ER (barCell d) 0 c) ∗ four (toks c) ∗ gtok c 0 ∗ gtok c 1 ∗ gtok c 2)

/-- The credits of everything that the other devices owe device `c`. -/
def gets : sProp 𝕄 :=
  iprop(cred (tallyAt (barCell c) () 3) ∗ four (owed c) ∗ cred (tallyAt (xCell c 5 0) () (amt 5)) ∗ cred (tallyAt (xCell c 5 1) () (amt 5))
    ∗ cred (tallyAt (xCell c 5 2) () (amt 5)))

/-- The buffers that device `c` and the others write, slot by slot, holding anything. -/
def room : sProp 𝕄 :=
  iprop(four (fun d => barPay c d) ∗ four (raw c) ∗ (∃ X, owns (c : Thread nD τ) stage fullShare X))

/-- The result's four blocks, holding anything. -/
def outs : sProp 𝕄 := four (fun j => iprop(∃ X, owns (c : Thread nD τ) (slotO j) fullShare X))

/-- Every semaphore of device `c` at zero. -/
def zeros : sProp 𝕄 :=
  iprop(semVal (barCell c) 0 ∗ four (fun d => iprop(semVal (xCell c 0 d) 0 ∗ semVal (xCell c 1 d) 0))
    ∗ four (fun d => iprop(semVal (xCell c 2 d) 0 ∗ semVal (xCell c 3 d) 0)) ∗ four (fun d => iprop(semVal (xCell c 4 d) 0 ∗ semVal (xCell c 5 d) 0)))

/-- The result's four blocks, written. -/
def done : sProp 𝕄 := four (fun j => owns (c : Thread nD τ) (slotO j) fullShare (outSl m c j))

omit [FloatOps F] in
theorem gsl_fwd : (four (fun d => gsl (F := F) d c) : sProp 𝕄) ⊢ iprop(gsl (fwd c 0) c ∗ gsl (fwd c 1) c ∗ gsl (fwd c 2) c ∗ gsl (fwd c 3) c) :=
  Entails.of_eq (four_equiv (fwdE c) (fun d => gsl d c))
omit [FloatOps F] in
theorem outs_bwd : (outs (F := F) c : sProp 𝕄) ⊢ iprop(ofree c 0 ∗ ofree c 1 ∗ ofree c 2 ∗ ofree c 3) :=
  Entails.of_eq (four_equiv (bwdE c) (fun j => iprop(∃ X, owns (c : Thread nD τ) (slotO j) fullShare X)))
theorem done_bwd : (iprop(ofull m c 0 ∗ ofull m c 1 ∗ ofull m c 2 ∗ ofull m c 3) : sProp 𝕄) ⊢ done m c :=
  Entails.of_eq (four_equiv (bwdE c) (fun j => owns (c : Thread nD τ) (slotO j) fullShare (outSl m c j))).symm

omit [FloatOps F] in
theorem places_eq (f g : Fin 6) :
    (four (places (F := F) c f g) : sProp 𝕄) = four (fun d => iprop(atPos ER (xCell c f d) 0 ∅ 0 ∗ atPos ER (xCell c g d) 0 ∅ 0)) := rfl

/-- The kernel's test whether another device is not its own. -/
theorem away : ∀ c d : Dev nD,
    Scalar.cmpi .ne (Scalar.extui (Scalar.cmpi .ne (devW c) (BitVec.ofNat 32 d.val)) : BitVec 32) 0#32 = 1#1 ↔ c ≠ d := by decide

/-- One copy of the gather is over: its share of the staged context is back. -/
theorem lent_wait {α : Type} {Q : α → sProp 𝕄} (t : Fin 4) (ht : t ≠ 3) {q : DmaSem sig} (hq : q = xsem 4 t)
    {h₁ h₂} {k : PUnit → Prog (TpuEff nD τ sig (Elt F) Λ₀ .tc) α} :
    iprop(recs m K ∗ levAts L lv ∗ ow c (owe c [] [] []) ∗ lent c t ∗ atPos ER (xCell c 4 t) 0 ∅ 0)
      ⊢ iprop((ow c (owe c [] [] []) ∗ semVal (xCell c 4 t) 0 ∗ owns (c : Thread nD τ) stage (shr t) (ctx16 m c) -∗ Runs c (k ⟨⟩) Q)
          -∗ Runs c (.op (.waitDma2 q stage stage h₁ h₂) k) Q) := by
  unfold lent
  iintro ⟨#HR, #HL, HO, Hc, Ha⟩ Hk
  iapply (wait_step m K c 4 t (used_gath c t ht).1 hq (dst := stage) rfl [] (fun h => absurd h (by decide))) $$ [HO Hc Ha]
  · isplitr; · iexact HR
    isplitr; · iexact HL
    isplitl [Hc]; · iexact Hc
    isplitl [HO] <;> iassumption
  iintro ⟨HO, Hz, Hp⟩
  ihave Hp := (Entails.of_eq (xfer_4 m c t)) $$ Hp
  iapply Hk
  isplitl [HO]; · iexact HO
  isplitl [Hz] <;> iassumption

theorem part16_runs :
    iprop(recs m K ∗ levAts L lv ∗ ow c (O₀ c) ∗ spots c ∗ dues c ∗ gets c ∗ room c ∗ outs c ∗ ins m c)
      ⊢ Runs c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11)
          (fun _ => iprop(ow c (owe c [] [] []) ∗ done m c ∗ ins m c ∗ four (got m c) ∗ four (filled m c)
            ∗ (came m c 0 ∗ came m c 1 ∗ came m c 2 ∗ gsl (fwd c 3) c)
            ∗ (semVal (xCell c 4 0) 0 ∗ semVal (xCell c 4 1) 0 ∗ lent c 2)
            ∗ (owns (c : Thread nD τ) stage (shr 0) (ctx16 m c) ∗ owns (c : Thread nD τ) stage (shr 1) (ctx16 m c))
            ∗ (atPos ER (xCell c 4 2) 0 ∅ 0 ∗ places c 4 5 3)
            ∗ semVal (barCell c) 0 ∗ four (fun d => iprop(semVal (xCell c 0 d) 0 ∗ semVal (xCell c 1 d) 0)))) := by
  rw [k0_part16_eq_skeleton]; unfold k0_part16_skel spots dues gets room ins
  simp only [Prog.lift, Prog.bind_op, Prog.bind_ret, Prog.pure_eq_ret]
  iintro ⟨#HR, #HL, HO, ⟨Hab, Hp01, Hp23, Ha45⟩, ⟨Htb, Htx, Ht0, Ht1, Ht2⟩, ⟨Hcb, Hcx, Hc0, Hc1, Hc2⟩,
    ⟨Hbp, Hraw, Hst⟩, Hou, ⟨H0, H1, H2, H3, H4⟩⟩
  ihave Ha45 := (Entails.of_eq (places_eq c 4 5)) $$ Ha45
  icases Ha45 with ⟨⟨Ha40, Ha50⟩, ⟨Ha41, Ha51⟩, ⟨Ha42, Ha52⟩, Ha3⟩
  iapply (runs_bind c (part7_runs m K c)) $$ [HO Htb Hbp H0 H1 H2]
  · isplitr; · iexact HR
    isplitl [HO]; · iexact HO
    isplitl [Htb]; · iexact Htb
    isplitl [Hbp]; · iexact Hbp
    isplitl [H0]; · iexact H0
    isplitl [H1] <;> iassumption
  iintro %r ⟨%hr, HO, Hk, H0, H1, H2⟩; subst hr
  iapply (runs_bind c (part8_runs m c)) $$ H3
  iintro %r ⟨%hr, H3⟩; subst hr
  iapply (runs_bind c (part9_runs m K c)) $$ [Hcb Hab HO Hk Hraw Htx]
  · isplitr; · iexact HR
    isplitr; · iexact HL
    isplitl [Hcb]; · iexact Hcb
    isplitl [Hab]; · iexact Hab
    isplitl [HO]; · iexact HO
    isplitl [Hk]; · iexact Hk
    isplitl [Hraw] <;> iassumption
  iintro %r ⟨HO, Hzb, Hg, Hm⟩
  ihave Hg := (gsl_fwd c) $$ Hg
  icases Hg with ⟨Hg0, Hg1, Hg2, Hg3⟩
  iapply (runs_bind c (part10_runs m K c [0, 2, 1])) $$ [HO Hm Hcx Hp23 H4]
  · isplitr; · iexact HR
    isplitr; · iexact HL
    isplitl [HO]; · iexact HO
    isplitl [Hm]; · iexact Hm
    isplitl [Hcx]; · iexact Hcx
    isplitl [Hp23] <;> iassumption
  iintro %r ⟨%hr, HO, Hout, Hgot, H4⟩; subst hr
  iapply (runs_bind c (part11_runs m c)) $$ [Hgot Hst]
  · isplitl [Hgot] <;> iassumption
  iintro %r ⟨%hr, Hgot, Hst⟩
  obtain ⟨r1, r2⟩ := r
  dsimp only at hr
  subst hr
  ihave Hst := (owns_three c stage (ctx16 m c)).1 $$ Hst
  icases Hst with ⟨Hs0, Hs1, Hs2⟩
  iapply (runs_bind c (part12_runs m K c r2)) $$ [HO Hs0 Hs2 Hg0 Hg2 Ht0 Ht2]
  · isplitr; · iexact HR
    isplitl [HO]; · iexact HO
    isplitl [Hs0]; · iexact Hs0
    isplitl [Hs2]; · iexact Hs2
    isplitl [Hg0]; · iexact Hg0
    isplitl [Hg2]; · iexact Hg2
    isplitl [Ht0] <;> iassumption
  iintro %r ⟨HO, Hl0, Hl2⟩
  ihave Hou := (outs_bwd c) $$ Hou
  icases Hou with ⟨Ho0, Ho1, Ho2, Ho3⟩
  iapply (runs_bind c (part13_runs m K c r.1 r.2)) $$ [HO Hs1 Hg1 Ht1 Ho3]
  · isplitr; · iexact HR
    isplitl [HO]; · iexact HO
    isplitl [Hs1]; · iexact Hs1
    isplitl [Hg1]; · iexact Hg1
    isplitl [Ht1] <;> iassumption
  iintro %r' ⟨HO, Hl1, Ho3⟩
  iapply (runs_bind c (part14_runs m K c r')) $$ [HO Hc0 Ha50 Ho0]
  · isplitr; · iexact HR
    isplitr; · iexact HL
    isplitl [HO]; · iexact HO
    isplitr [Ho0]; · (unfold due; isplitl [Hc0] <;> iassumption)
    iexact Ho0
  iintro %r'' ⟨HO, Hw0, Ho0⟩
  iapply (runs_bind c (part15_runs m K c r'')) $$ [HO Hc1 Ha51 Hc2 Ha52 Ho2]
  · isplitr; · iexact HR
    isplitr; · iexact HL
    isplitl [HO]; · iexact HO
    unfold due
    isplitl [Hc2 Ha52]; · (isplitl [Hc2] <;> iassumption)
    isplitl [Hc1 Ha51]; · (isplitl [Hc1] <;> iassumption)
    iexact Ho2
  iintro %r''' ⟨HO, Hw2, Hw1, Ho2⟩
  unfold came
  icases Hw1 with ⟨Hz1, Hw1⟩
  iapply (get_G c 1 rfl) $$ Hw1; iintro Hw1
  unfold ofree
  iapply (put_O c (bwd c 1) (off_1 c)) $$ Ho1; iintro Ho1
  unfold places outgo
  icases Hp01 with ⟨⟨Ha0, Hb0⟩, ⟨Ha1, Hb1⟩, ⟨Ha2, Hb2⟩, ⟨Ha3', Hb3⟩⟩
  icases Hout with ⟨⟨Hp0, Hq0⟩, ⟨Hp1, Hq1⟩, ⟨Hp2, Hq2⟩, ⟨Hp3, Hq3⟩⟩
  iapply (waits_if m K c 0 (away c 0) 0 1 (by decide) (by decide) (fun _ => sem_off 0 0 rfl _ _) (fun _ => sem_off 1 0 rfl _ _)
    (dst := fun _ => (slotC payC 0).squeeze S8x64x64 squeezes_S1x8x64x64_S8x64x64) (dst' := fun _ => (slotS payS 0).squeeze S8x64 squeezes_S1x8x64_S8x64)
    (fun _ => rfl) (fun _ => rfl) []) $$ [HO Hp0 Hq0 Ha0 Hb0]
  · isplitr; · iexact HR
    isplitr; · iexact HL
    isplitl [HO]; · iexact HO
    isplitl [Hp0]; · iexact Hp0
    isplitl [Hq0]; · iexact Hq0
    isplitl [Ha0] <;> iassumption
  iintro ⟨HO, Hp0, Hq0, Hx0, Hy0⟩
  iapply (waits_if m K c 1 (away c 1) 0 1 (by decide) (by decide) (fun _ => sem_off 0 1 rfl _ _) (fun _ => sem_off 1 1 rfl _ _)
    (dst := fun _ => (slotC payC 1).squeeze S8x64x64 squeezes_S1x8x64x64_S8x64x64) (dst' := fun _ => (slotS payS 1).squeeze S8x64 squeezes_S1x8x64_S8x64)
    (fun _ => rfl) (fun _ => rfl) []) $$ [HO Hp1 Hq1 Ha1 Hb1]
  · isplitr; · iexact HR
    isplitr; · iexact HL
    isplitl [HO]; · iexact HO
    isplitl [Hp1]; · iexact Hp1
    isplitl [Hq1]; · iexact Hq1
    isplitl [Ha1] <;> iassumption
  iintro ⟨HO, Hp1, Hq1, Hx1, Hy1⟩
  iapply (waits_if m K c 2 (away c 2) 0 1 (by decide) (by decide) (fun _ => sem_off 0 2 rfl _ _) (fun _ => sem_off 1 2 rfl _ _)
    (dst := fun _ => (slotC payC 2).squeeze S8x64x64 squeezes_S1x8x64x64_S8x64x64) (dst' := fun _ => (slotS payS 2).squeeze S8x64 squeezes_S1x8x64_S8x64)
    (fun _ => rfl) (fun _ => rfl) []) $$ [HO Hp2 Hq2 Ha2 Hb2]
  · isplitr; · iexact HR
    isplitr; · iexact HL
    isplitl [HO]; · iexact HO
    isplitl [Hp2]; · iexact Hp2
    isplitl [Hq2]; · iexact Hq2
    isplitl [Ha2] <;> iassumption
  iintro ⟨HO, Hp2, Hq2, Hx2, Hy2⟩
  iapply (waits_if m K c 3 (away c 3) 0 1 (by decide) (by decide) (fun _ => sem_off 0 3 rfl _ _) (fun _ => sem_off 1 3 rfl _ _)
    (dst := fun _ => (slotC payC 3).squeeze S8x64x64 squeezes_S1x8x64x64_S8x64x64) (dst' := fun _ => (slotS payS 3).squeeze S8x64 squeezes_S1x8x64_S8x64)
    (fun _ => rfl) (fun _ => rfl) []) $$ [HO Hp3 Hq3 Ha3' Hb3]
  · isplitr; · iexact HR
    isplitr; · iexact HL
    isplitl [HO]; · iexact HO
    isplitl [Hp3]; · iexact Hp3
    isplitl [Hq3]; · iexact Hq3
    isplitl [Ha3'] <;> iassumption
  iintro ⟨HO, Hp3, Hq3, Hx3, Hy3⟩
  ihave Hp0 := (Entails.of_eq (xfer_0 m c 0)) $$ Hp0
  ihave Hq0 := (Entails.of_eq (xfer_1 m c 0)) $$ Hq0
  ihave Hp1 := (Entails.of_eq (xfer_0 m c 1)) $$ Hp1
  ihave Hq1 := (Entails.of_eq (xfer_1 m c 1)) $$ Hq1
  ihave Hp2 := (Entails.of_eq (xfer_0 m c 2)) $$ Hp2
  ihave Hq2 := (Entails.of_eq (xfer_1 m c 2)) $$ Hq2
  ihave Hp3 := (Entails.of_eq (xfer_0 m c 3)) $$ Hp3
  ihave Hq3 := (Entails.of_eq (xfer_1 m c 3)) $$ Hq3
  iapply (lent_wait m K c 0 (by decide) (sem_off 4 0 rfl _ _)) $$ [HO Hl0 Ha40]
  · isplitr; · iexact HR
    isplitr; · iexact HL
    isplitl [HO]; · iexact HO
    isplitl [Hl0] <;> iassumption
  iintro ⟨HO, Hz40, Hs0⟩
  iapply (lent_wait m K c 1 (by decide) (sem_off 4 1 rfl _ _)) $$ [HO Hl1 Ha41]
  · isplitr; · iexact HR
    isplitr; · iexact HL
    isplitl [HO]; · iexact HO
    isplitl [Hl1] <;> iassumption
  iintro ⟨HO, Hz41, Hs1⟩
  iapply (runs_ret c)
  isplitl [HO]; · iexact HO
  isplitl [Ho0 Ho1 Ho2 Ho3]
  · iapply (done_bwd m c)
    isplitl [Ho0]; · iexact Ho0
    isplitl [Ho1]
    · unfold ofull; rw [out_other m c 1 (by decide)]; iexact Ho1
    isplitl [Ho2] <;> iassumption
  isplitl [H0 H1 H2 H3 H4]
  · isplitl [H0]; · iexact H0
    isplitl [H1]; · iexact H1
    isplitl [H2]; · iexact H2
    isplitl [H3] <;> iassumption
  isplitl [Hgot]; · iexact Hgot
  isplitl [Hp0 Hq0 Hp1 Hq1 Hp2 Hq2 Hp3 Hq3]
  · unfold filled
    isplitl [Hp0 Hq0]; · (isplitl [Hp0]; · iexact Hp0
                          iexact Hq0)
    isplitl [Hp1 Hq1]; · (isplitl [Hp1]; · iexact Hp1
                          iexact Hq1)
    isplitl [Hp2 Hq2]; · (isplitl [Hp2]; · iexact Hp2
                          iexact Hq2)
    isplitl [Hp3]; · iexact Hp3
    iexact Hq3
  isplitl [Hw0 Hz1 Hw1 Hw2 Hg3]
  · isplitl [Hw0]; · iexact Hw0
    isplitl [Hz1 Hw1]; · (isplitl [Hz1] <;> iassumption)
    isplitl [Hw2] <;> iassumption
  isplitl [Hz40 Hz41 Hl2]
  · isplitl [Hz40]; · iexact Hz40
    isplitl [Hz41] <;> iassumption
  isplitl [Hs0 Hs1]; · (isplitl [Hs0] <;> iassumption)
  isplitl [Ha42 Ha3]; · (isplitl [Ha42] <;> iassumption)
  isplitl [Hzb]; · iexact Hzb
  isplitl [Hx0 Hy0]; · (isplitl [Hx0] <;> iassumption)
  isplitl [Hx1 Hy1]; · (isplitl [Hx1] <;> iassumption)
  isplitl [Hx2 Hy2]; · (isplitl [Hx2] <;> iassumption)
  isplitl [Hx3] <;> iassumption

omit [FloatOps F] in
theorem gap_bwd : ∀ (c : Dev nD) (t : Fin 4), gap c (bwd c t) = t := by decide

theorem got_split (d : Dev nD) : got m c d ⊢ (iprop(inb c d ∗ (semVal (xCell c 2 d) 0 ∗ semVal (xCell c 3 d) 0)) : sProp 𝕄) := by
  unfold got inb
  iintro ⟨⟨H1, H2⟩, H3⟩
  isplitl [H1 H2]
  · isplitl [H1]
    · iexists _; iexact H1
    iexists _; iexact H2
  iexact H3

theorem filled_raw (d : Dev nD) : filled m c d ⊢ (raw c d : sProp 𝕄) := by
  unfold filled
  iintro ⟨H1, H2⟩
  isplitl [H1]
  · iexists _; iexact H1
  iexists _; iexact H2

omit [FloatOps F] in
theorem slot_gsl (t : Fin 4) : (iprop(∃ X, owns (c : Thread nD τ) (slotG t) fullShare X) : sProp 𝕄) ⊢ gsl c (bwd c t) := by
  unfold gsl; rw [gap_bwd]

theorem came_split (t : Fin 4) : came m c t ⊢ (iprop(semVal (xCell c 5 t) 0 ∗ gsl c (bwd c t)) : sProp 𝕄) := by
  unfold came
  iintro ⟨H1, H2⟩
  isplitl [H1]; · iexact H1
  iapply (slot_gsl c t)
  iexists _; iexact H2

omit [FloatOps F] in
theorem gsl_own : gsl (F := F) (fwd c 3) c ⊢ (gsl c (bwd c 3) : sProp 𝕄) := by
  rw [fwd_three, bwd_three]

omit [FloatOps F] in
theorem gsl_bwd : (iprop(gsl (F := F) c (bwd c 0) ∗ gsl c (bwd c 1) ∗ gsl c (bwd c 2) ∗ gsl c (bwd c 3)) : sProp 𝕄) ⊢ four (fun d => gsl c d) :=
  Entails.of_eq (four_equiv (bwdE c) (fun d => gsl c d)).symm

omit [FloatOps F] in
theorem barPay_join : (iprop(four (fun d => inb (F := F) c d) ∗ four (fun d => gsl c d)) : sProp 𝕄) ⊢ four (fun d => barPay c d) := by
  rw [← four_sep]
  refine four_mono fun d => ?_
  unfold inb gsl barPay
  iintro ⟨⟨H1, H2⟩, H3⟩
  isplitl [H1]; · iexact H1
  isplitl [H2] <;> iassumption

/-- The body of device `c`: it pays all that it owes, writes the result's four blocks, leaves the inputs as they are,
    gives back its buffers, and every one of its semaphores is at zero. -/
theorem body_runs :
    iprop(recs m K ∗ levAts L lv ∗ ow c (O₀ c) ∗ spots c ∗ dues c ∗ gets c ∗ room c ∗ outs c ∗ ins m c)
      ⊢ Runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11)
          (fun _ => iprop(ow c (owe c [] [] []) ∗ zeros c ∗ room c ∗ done m c ∗ ins m c)) := by
  rw [cc0_body_eq_skeleton]; unfold cc0_body_skel
  simp only [Prog.lift, Prog.bind_op, Prog.bind_ret, Prog.pure_eq_ret]
  iintro ⟨#HR, #HL, H⟩
  iapply (runs_bind c (part16_runs m K c)) $$ [H]
  · isplitr; · iexact HR
    isplitr; · iexact HL
    iexact H
  iintro %r ⟨HO, Hdn, Hin, Hgot, Hfl, ⟨Hw0, Hw1, Hw2, Hg3⟩, ⟨Hz40, Hz41, Hl2⟩, ⟨Hs0, Hs1⟩, ⟨Ha42, Ha3⟩, Hzb, Hz01⟩
  iapply (lent_wait m K c 2 (by decide) (sem_off 4 2 rfl _ _)) $$ [HO Hl2 Ha42]
  · isplitr; · iexact HR
    isplitr; · iexact HL
    isplitl [HO]; · iexact HO
    isplitl [Hl2] <;> iassumption
  iintro ⟨HO, Hz42, Hs2⟩
  unfold places
  icases Ha3 with ⟨Ha43, Ha53⟩
  unfold Runs
  rw [wp_ret]
  imod (close_unused m K c 4 3 (by revert c; decide)) $$ [Ha43] with Hz43
  · isplitr; · iexact HR
    iexact Ha43
  imod (close_unused m K c 5 3 (by revert c; decide)) $$ [Ha53] with Hz53
  · isplitr; · iexact HR
    iexact Ha53
  imodintro
  ihave Hgot := (four_mono (got_split m c)) $$ Hgot
  ihave Hgot := (Entails.of_eq (four_sep (fun d => inb c d) (fun d => iprop(semVal (xCell c 2 d) 0 ∗ semVal (xCell c 3 d) 0)))) $$ Hgot
  icases Hgot with ⟨Hinb, Hz23⟩
  ihave Hw0 := (came_split m c 0) $$ Hw0
  icases Hw0 with ⟨Hz50, Hw0⟩
  ihave Hw1 := (came_split m c 1) $$ Hw1
  icases Hw1 with ⟨Hz51, Hw1⟩
  ihave Hw2 := (came_split m c 2) $$ Hw2
  icases Hw2 with ⟨Hz52, Hw2⟩
  ihave Hg3 := (gsl_own c) $$ Hg3
  isplitl [HO]; · iexact HO
  isplitl [Hzb Hz01 Hz23 Hz40 Hz41 Hz42 Hz43 Hz50 Hz51 Hz52 Hz53]
  · unfold zeros
    isplitl [Hzb]; · iexact Hzb
    isplitl [Hz01]; · iexact Hz01
    isplitl [Hz23]; · iexact Hz23
    isplitl [Hz40 Hz50]; · (isplitl [Hz40] <;> iassumption)
    isplitl [Hz41 Hz51]; · (isplitl [Hz41] <;> iassumption)
    isplitl [Hz42 Hz52]; · (isplitl [Hz42] <;> iassumption)
    isplitl [Hz43] <;> iassumption
  isplitl [Hinb Hw0 Hw1 Hw2 Hg3 Hfl Hs0 Hs1 Hs2]
  · unfold room
    isplitl [Hinb Hw0 Hw1 Hw2 Hg3]
    · iapply (barPay_join c)
      isplitl [Hinb]; · iexact Hinb
      iapply (gsl_bwd c)
      isplitl [Hw0]; · iexact Hw0
      isplitl [Hw1]; · iexact Hw1
      isplitl [Hw2] <;> iassumption
    isplitl [Hfl]
    · iapply (four_mono (filled_raw m c)) $$ Hfl
    iexists (ctx16 m c)
    iapply (owns_three c stage (ctx16 m c)).2
    isplitl [Hs0]; · iexact Hs0
    isplitl [Hs1] <;> iassumption
  isplitl [Hdn] <;> iassumption

end Parts

end Cert.KernelIdeal.Hand

end
-- ==== Proof.KernelIdeal.Buffers.lean ====
/-
Whole buffers and their slots: a buffer of four slots cut into them and glued together again.
-/
module

public import proofs.«01_k».proof.Proof.KernelIdeal.BodyE
public import Idealize.ShloMosaic.Lib.ValueIdxCore

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Four bands along an axis -/

section Bands
variable {s : Shape} (a : Fin s.rank) (n : ℕ) (off : Fin 4 → Fin s.rank → ℕ) (size : Fin s.rank → ℕ)
  (hb : ∀ j a, off j a + size a ≤ s.size a) (ho : ∀ j, off j a = n * j.val) (hs : size a = n)
include ho hs

/-- Four bands of `n` along one axis do not meet, -/
theorem band_disjoint (t t' : Fin 4) (h : t ≠ t') :
    Disjoint (Rect.unit (s := s) (off t) size (hb t)).set (Rect.unit (s := s) (off t') size (hb t')).set := by
  refine Rect.unit_disjoint a ?_
  rw [ho, ho, hs]
  rcases Nat.lt_or_gt_of_ne (fun hv => h (Fin.ext hv) : t.val ≠ t'.val) with hl | hl
  · exact .inl (Nat.mul_succ n t.val ▸ Nat.mul_le_mul_left n hl)
  · exact .inr (Nat.mul_succ n t'.val ▸ Nat.mul_le_mul_left n hl)

/-- and fill the shape when they are full along the others. -/
theorem band_cover (hn : 0 < n) (hf : s.size a = n * 4) (hoth : ∀ j b, b ≠ a → off j b = 0 ∧ size b = s.size b) :
    (Finset.univ : Finset (Fin 4)).biUnion (fun t => (Rect.unit (s := s) (off t) size (hb t)).set) = Finset.univ := by
  refine Finset.eq_univ_iff_forall.mpr fun i => ?_
  have hi : (i a).val < n * 4 := hf ▸ (i a).2
  refine Finset.mem_biUnion.mpr ⟨⟨(i a).val / n, Nat.div_lt_of_lt_mul hi⟩, Finset.mem_univ _, Rect.mem_set_unit.mpr fun b => ?_⟩
  by_cases h : b = a
  · subst h
    rw [ho, hs]
    exact ⟨Nat.mul_div_le _ _, by have := Nat.lt_mul_div_succ (i b).val hn; rw [Nat.mul_succ] at this; exact this⟩
  · rw [(hoth _ b h).1, (hoth ⟨(i a).val / n, Nat.div_lt_of_lt_mul hi⟩ b h).2]
    exact ⟨Nat.zero_le _, by rw [Nat.zero_add]; exact (i b).2⟩
end Bands

section Cut
variable (c : Dev nD) {s : Shape} {e : EltTy} (M : Memref sig .tc .vmem s e) (r : Fin 4 → Rect s) (hr : ∀ t a, (r t).stride a = 1)
  (hd : ∀ t t', t ≠ t' → Disjoint (r t).set (r t').set) (hcov : (Finset.univ : Finset (Fin 4)).biUnion (fun t => (r t).set) = Finset.univ)
include hd hcov

omit [FloatOps F] in
/-- A buffer holding anything is its four slots holding anything, -/
theorem cut : (iprop(∃ X, owns (c : Thread nD τ) M fullShare X) : sProp 𝕄)
    ⊢ four (fun t => iprop(∃ X, owns (c : Thread nD τ) (M.slice (r t) (hr t)) fullShare X)) := by
  iintro ⟨%X, H⟩
  ihave H := (owns_rects (c : Thread nD τ) M fullShare r hr hd hcov X) $$ H
  ihave H := (Entails.of_eq (four_eq (fun t => owns (c : Thread nD τ) (M.slice (r t) (hr t)) fullShare (fun j => X ((r t).emb j))))) $$ H
  iapply (four_mono fun t => ?_) $$ H
  iintro H
  iexists _
  iexact H

/-- and back; -/
theorem glue : (four (fun t => iprop(∃ X, owns (c : Thread nD τ) (M.slice (r t) (hr t)) fullShare X)) : sProp 𝕄)
    ⊢ iprop(∃ X, owns (c : Thread nD τ) M fullShare X) := by
  have h := ownsSat_of_rects (Val := Elt F) (Ix := Unit) (Name := ℕ) (U := UU) (Lvl := ℕ) (c : Thread nD τ) M fullShare r hr hd hcov (fun _ _ => True)
  rw [four_eq] at h
  iintro H
  ihave H := (four_mono (F := F) fun t => (show (iprop(∃ X, owns (c : Thread nD τ) (M.slice (r t) (hr t)) fullShare X) : sProp 𝕄)
    ⊢ ownsSat (c : Thread nD τ) (M.slice (r t) (hr t)) fullShare (fun _ => True) by
      iintro ⟨%X, H⟩
      iapply (ownsSat_intro (c : Thread nD τ) (M.slice (r t) (hr t)) fullShare (X := X) trivial) $$ H)) $$ H
  ihave H := h $$ H
  ihave H := (ownsSat_elim (c : Thread nD τ) M fullShare _) $$ H
  icases H with ⟨%X, -, H⟩
  iexists X
  iexact H

/-- the same with the contents known. -/
theorem glue_at (X : s.Idx → Elt F e) (Y : (t : Fin 4) → (r t).shape.Idx → Elt F e) (hY : ∀ t j, Y t j = X ((r t).emb j)) :
    (four (fun t => owns (c : Thread nD τ) (M.slice (r t) (hr t)) fullShare (Y t)) : sProp 𝕄) ⊢ owns (c : Thread nD τ) M fullShare X := by
  rw [show Y = fun t j => X ((r t).emb j) from funext fun t => funext fun j => hY t j, ← four_eq]
  exact owns_of_rects (c : Thread nD τ) M fullShare r hr hd hcov X
end Cut

omit [FloatOps F] in
/-- A whole buffer's points-to and owning it as a memref are the same. -/
theorem whole_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  have h₁ : (iprop(∃ f : Buf (Elt F) ((c : Thread nD τ).loc b), ((c : Thread nD τ).loc b) ↦{fullShare} f) : sProp 𝕄)
      ⊢ iprop(∃ X, owns (c : Thread nD τ) (Memref.whole b) fullShare X) := by
    iintro ⟨%f, H⟩
    iexists f
    rw [owns_whole_eq]
    iexists f
    isplitr; · (ipureintro; rfl)
    iexact H
  have h₂ : (iprop(∃ X, owns (c : Thread nD τ) (Memref.whole b) fullShare X) : sProp 𝕄)
      ⊢ iprop(∃ f : Buf (Elt F) ((c : Thread nD τ).loc b), ((c : Thread nD τ).loc b) ↦{fullShare} f) := by
    simp only [owns_whole_eq]
    iintro ⟨%X, %f, -, H⟩
    iexists f
    iexact H
  exact BI.equiv_iff.mp ⟨h₁, h₂⟩

/-! ## The kernel's buffers -/

theorem discC : ∀ t t', t ≠ t' → Disjoint (rectC t).set (rectC t').set :=
  band_disjoint (s := S4x8x64x64) 0 1 (fun j => ![j.val, 0, 0, 0]) S1x8x64x64.size inbC (fun j => (Nat.one_mul _).symm) rfl
theorem coverC : (Finset.univ : Finset (Fin 4)).biUnion (fun t => (rectC t).set) = Finset.univ :=
  band_cover (s := S4x8x64x64) 0 1 (fun j => ![j.val, 0, 0, 0]) S1x8x64x64.size inbC (fun j => (Nat.one_mul _).symm) rfl Nat.one_pos rfl
    (fun j b h => by fin_cases b <;> first | exact absurd rfl h | exact ⟨rfl, rfl⟩)
theorem discS : ∀ t t', t ≠ t' → Disjoint (rectS t).set (rectS t').set :=
  band_disjoint (s := S4x8x64) 0 1 (fun j => ![j.val, 0, 0]) S1x8x64.size inbS (fun j => (Nat.one_mul _).symm) rfl
theorem coverS : (Finset.univ : Finset (Fin 4)).biUnion (fun t => (rectS t).set) = Finset.univ :=
  band_cover (s := S4x8x64) 0 1 (fun j => ![j.val, 0, 0]) S1x8x64.size inbS (fun j => (Nat.one_mul _).symm) rfl Nat.one_pos rfl
    (fun j b h => by fin_cases b <;> first | exact absurd rfl h | exact ⟨rfl, rfl⟩)
theorem discG : ∀ t t', t ≠ t' → Disjoint (rectG t).set (rectG t').set :=
  band_disjoint (s := S4x2x64x256) 0 1 (fun j => ![j.val, 0, 0, 0]) S1x2x64x256.size inbG (fun j => (Nat.one_mul _).symm) rfl
theorem coverG : (Finset.univ : Finset (Fin 4)).biUnion (fun t => (rectG t).set) = Finset.univ :=
  band_cover (s := S4x2x64x256) 0 1 (fun j => ![j.val, 0, 0, 0]) S1x2x64x256.size inbG (fun j => (Nat.one_mul _).symm) rfl Nat.one_pos rfl
    (fun j b h => by fin_cases b <;> first | exact absurd rfl h | exact ⟨rfl, rfl⟩)
theorem discO : ∀ t t', t ≠ t' → Disjoint (rectO t).set (rectO t').set :=
  band_disjoint (s := S2x256x512) 1 64 (fun j => ![0, 64 * j.val, 0]) S2x64x512.size inbO (fun j => rfl) rfl
theorem coverO : (Finset.univ : Finset (Fin 4)).biUnion (fun t => (rectO t).set) = Finset.univ :=
  band_cover (s := S2x256x512) 1 64 (fun j => ![0, 64 * j.val, 0]) S2x64x512.size inbO (fun j => rfl) rfl (by decide) rfl
    (fun j b h => by fin_cases b <;> first | exact absurd rfl h | exact ⟨rfl, rfl⟩)

/-- The six scratch buffers whole, holding anything. -/
def bufs (c : Dev nD) : sProp 𝕄 :=
  iprop((∃ X, owns (c : Thread nD τ) payC fullShare X) ∗ (∃ X, owns (c : Thread nD τ) payS fullShare X)
    ∗ (∃ X, owns (c : Thread nD τ) inC fullShare X) ∗ (∃ X, owns (c : Thread nD τ) inS fullShare X)
    ∗ (∃ X, owns (c : Thread nD τ) stage fullShare X) ∗ (∃ X, owns (c : Thread nD τ) gath fullShare X))

omit [FloatOps F] in
theorem inb_four (c : Dev nD) : (four (fun d => inb (F := F) c d) : sProp 𝕄)
    = iprop(four (fun d => iprop(∃ X, owns (c : Thread nD τ) (slotC inC d) fullShare X)) ∗ four (fun d => iprop(∃ X, owns (c : Thread nD τ) (slotS inS d) fullShare X))) :=
  four_sep _ _
omit [FloatOps F] in
theorem raw_four (c : Dev nD) : (four (fun d => raw (F := F) c d) : sProp 𝕄)
    = iprop(four (fun d => iprop(∃ X, owns (c : Thread nD τ) (slotC payC d) fullShare X)) ∗ four (fun d => iprop(∃ X, owns (c : Thread nD τ) (slotS payS d) fullShare X))) :=
  four_sep _ _
omit [FloatOps F] in
theorem gsl_four (c : Dev nD) : (four (fun d => gsl (F := F) c d) : sProp 𝕄) = four (fun t => iprop(∃ X, owns (c : Thread nD τ) (slotG t) fullShare X)) := by
  rw [four_equiv (bwdE c) (fun d => gsl (F := F) c d)]
  have h : ∀ t, (gsl (F := F) c (bwdE c t) : sProp 𝕄) = iprop(∃ X, owns (c : Thread nD τ) (slotG t) fullShare X) := fun t => by
    show gsl c (bwd c t) = _
    unfold gsl; rw [gap_bwd]
  exact congrArg four (funext h)
omit [FloatOps F] in
theorem barPay_four (c : Dev nD) : (four (fun d => barPay (F := F) c d) : sProp 𝕄) = iprop(four (fun d => inb (F := F) c d) ∗ four (fun d => gsl (F := F) c d)) := by
  refine BI.equiv_iff.mp ⟨?_, barPay_join c⟩
  rw [← four_sep]
  exact four_mono fun d => barPay_split c d

omit [FloatOps F] in
/-- The scratch buffers cut into the slots that the exchange is told in, -/
theorem bufs_room (c : Dev nD) : bufs c ⊢ (room c : sProp 𝕄) := by
  unfold bufs room
  rw [barPay_four, inb_four, raw_four, gsl_four]
  iintro ⟨H0, H1, H2, H3, H4, H5⟩
  isplitl [H2 H3 H5]
  · isplitl [H2 H3]
    · isplitl [H2]
      · iapply (cut c inC rectC (fun _ _ => rfl) discC coverC) $$ H2
      · iapply (cut c inS rectS (fun _ _ => rfl) discS coverS) $$ H3
    · iapply (cut c gath rectG (fun _ _ => rfl) discG coverG) $$ H5
  isplitl [H0 H1]
  · isplitl [H0]
    · iapply (cut c payC rectC (fun _ _ => rfl) discC coverC) $$ H0
    · iapply (cut c payS rectS (fun _ _ => rfl) discS coverS) $$ H1
  iexact H4

/-- and glued together again. -/
theorem room_bufs (c : Dev nD) : room c ⊢ (bufs c : sProp 𝕄) := by
  unfold bufs room
  rw [barPay_four, inb_four, raw_four, gsl_four]
  iintro ⟨⟨⟨H2, H3⟩, H5⟩, ⟨H0, H1⟩, H4⟩
  isplitl [H0]; · iapply (show (four (fun d => iprop(∃ X, owns (c : Thread nD τ) (slotC payC d) fullShare X)) : sProp 𝕄) ⊢ iprop(∃ X, owns (c : Thread nD τ) payC fullShare X) from
      glue c payC rectC (fun _ _ => rfl) discC coverC) $$ H0
  isplitl [H1]; · iapply (show (four (fun d => iprop(∃ X, owns (c : Thread nD τ) (slotS payS d) fullShare X)) : sProp 𝕄) ⊢ iprop(∃ X, owns (c : Thread nD τ) payS fullShare X) from
      glue c payS rectS (fun _ _ => rfl) discS coverS) $$ H1
  isplitl [H2]; · iapply (show (four (fun d => iprop(∃ X, owns (c : Thread nD τ) (slotC inC d) fullShare X)) : sProp 𝕄) ⊢ iprop(∃ X, owns (c : Thread nD τ) inC fullShare X) from
      glue c inC rectC (fun _ _ => rfl) discC coverC) $$ H2
  isplitl [H3]; · iapply (show (four (fun d => iprop(∃ X, owns (c : Thread nD τ) (slotS inS d) fullShare X)) : sProp 𝕄) ⊢ iprop(∃ X, owns (c : Thread nD τ) inS fullShare X) from
      glue c inS rectS (fun _ _ => rfl) discS coverS) $$ H3
  isplitl [H4]; · iexact H4
  iapply (show (four (fun d => iprop(∃ X, owns (c : Thread nD τ) (slotG d) fullShare X)) : sProp 𝕄) ⊢ iprop(∃ X, owns (c : Thread nD τ) gath fullShare X) from
      glue c gath rectG (fun _ _ => rfl) discG coverG) $$ H5

omit [FloatOps F] in
/-- The region's scratch buffers as they come and go. -/
theorem scoped_bufs (c : Dev nD) : (Pipeline.scopedRest (Ix := Unit) (Name := ℕ) (U := UU) (Lvl := ℕ) (Val := Elt F) cfg0.spec c : sProp 𝕄) = bufs c := by
  refine (scopedRest0_eq c).trans ?_
  rw [whole_any, whole_any, whole_any, whole_any, whole_any, whole_any]
  rfl

/-! ## The result -/

/-- The block of 64 query rows that an element of the result lies in, -/
def outBlk (i : S2x256x512.Idx) : Dev nD := ⟨(i 1).val / 64, Nat.div_lt_of_lt_mul (i 1).2⟩
/-- and its place there. -/
def outIn (i : S2x256x512.Idx) : S2x64x512.Idx := Idealize.ShloMosaic.ValueIdx.ix3 (n0 := 2) (n1 := 64) (n2 := 512) (i 0) ⟨(i 1).val % 64, Nat.mod_lt _ (by decide)⟩ (i 2)

/-- The result that device `c` computes. -/
def outV (c : Dev nD) : FVec F S2x256x512 .f32 := fun i => outSl m c (outBlk i) (outIn i)

theorem outV_at (c j : Dev nD) (y : S2x64x512.Idx) : outSl m c j y = outV m c ((rectO j).emb y) := by
  have h1 : ((rectO j).emb y 1).val = 64 * j.val + 1 * (y 1).val := rfl
  have hy : (y 1).val < 64 := (y 1).2
  have hb : outBlk ((rectO j).emb y) = j := Fin.ext (by show ((rectO j).emb y 1).val / 64 = _; rw [h1]; omega)
  have hi : outIn ((rectO j).emb y) = y := by
    funext a
    fin_cases a
    · exact Fin.ext (show 0 + 1 * (y 0).val = (y 0).val by omega)
    · exact Fin.ext (show ((rectO j).emb y 1).val % 64 = (y 1).val by rw [h1]; omega)
    · exact Fin.ext (show 0 + 1 * (y 2).val = (y 2).val by omega)
  unfold outV
  rw [hb, hi]

omit [FloatOps F] in
theorem out_cut (c : Dev nD) : (iprop(∃ X, owns (c : Thread nD τ) outM fullShare X) : sProp 𝕄) ⊢ outs c :=
  cut c outM rectO (fun _ _ => rfl) discO coverO
theorem out_glue (c : Dev nD) : done m c ⊢ (owns (c : Thread nD τ) outM fullShare (outV m c) : sProp 𝕄) :=
  glue_at c outM rectO (fun _ _ => rfl) discO coverO (outV m c) (outSl m c) (fun j y => outV_at m c j y)

end Cert.KernelIdeal.Hand

end
-- ==== Proof.KernelIdeal.Ghost.lean ====
/-
The launch's ghost state: every semaphore's counter becomes an invariant of the schedule, and the tokens and credits are
dealt to the devices that use them.
-/
module

public import proofs.«01_k».proof.Proof.KernelIdeal.Buffers

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The semaphores of one device. -/
abbrev KI : Type := Option (Fin 6 × Fin 4)

theorem kcell_inj : Function.Injective (kcell : Dev nD × KI → GSem nD τ sig) := by
  have hdev : ∀ ck : Dev nD × KI, (kcell ck).1.1 = ck.1 := fun ck => by rcases ck with ⟨c, _ | p⟩ <;> rfl
  rintro ⟨c, k⟩ ⟨c', k'⟩ h
  obtain rfl : c = c' := by have := congrArg (fun g : GSem nD τ sig => g.1.1) h; rwa [hdev, hdev] at this
  have h2 : (kcell (c, k)).2 = (kcell (c, k')).2 := congrArg Prod.snd h
  rcases k with _ | ⟨f, j⟩ <;> rcases k' with _ | ⟨f', j'⟩
  · rfl
  · exact absurd h2 (fun h => by cases h)
  · exact absurd h2 (fun h => by cases h)
  · obtain ⟨rfl, rfl⟩ := xsem_inj f j f' j' (by injection h2)
    rfl

/-- Every semaphore of every device, -/
def allCells : Finset (GSem nD τ sig) := Finset.univ.map ⟨kcell, kcell_inj⟩
/-- and a token for each and each device. -/
def tokOf (p : (Dev nD × KI) × Dev nD) : GSem nD τ sig × ℕ × Dev nD := (kcell p.1, 0, p.2)
theorem tokOf_inj : Function.Injective tokOf := by
  rintro ⟨a, d⟩ ⟨b, e⟩ h
  obtain rfl := kcell_inj (congrArg (fun x : GSem nD τ sig × ℕ × Dev nD => x.1) h)
  obtain rfl : d = e := congrArg (fun x : GSem nD τ sig × ℕ × Dev nD => x.2.2) h
  rfl
def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

/-! ## Conjunctions over semaphores and devices -/

omit [FloatOps F] in
/-- A conjunction over one device's semaphores, array by array. -/
theorem cells_split (Φ : KI → sProp 𝕄) :
    bigSep Finset.univ Φ = iprop(Φ none ∗ four (fun j => Φ (some (0, j))) ∗ four (fun j => Φ (some (1, j))) ∗ four (fun j => Φ (some (2, j)))
      ∗ four (fun j => Φ (some (3, j))) ∗ four (fun j => Φ (some (4, j))) ∗ four (fun j => Φ (some (5, j)))) := by
  have h : bigSep Finset.univ Φ = bigSep Finset.univ (fun x : Unit ⊕ (Fin 6 × Fin 4) => Φ (x.elim (fun _ => none) some)) :=
    (bigSep_univ_equiv ((Equiv.sumComm Unit (Fin 6 × Fin 4)).trans (Equiv.optionEquivSumPUnit (Fin 6 × Fin 4)).symm) Φ).trans
      (bigSep_congr fun x _ => by rcases x with _ | p <;> rfl)
  rw [h, bigSep_univ_sum, bigSep_univ_prod, bigSep_univ_eq_bigSepL [(0 : Fin 6), 1, 2, 3, 4, 5] (by decide) (by decide)]
  simp only [bigSepL_cons_cons, bigSepL_singleton]
  rw [Finset.univ_unique, bigSep_singleton]
  simp only [four_eq, Sum.elim_inl, Sum.elim_inr]
  rfl

omit [FloatOps F] in
/-- Over ordered pairs of devices, from either side. -/
theorem pairs_swap (Φ : Dev nD → Dev nD → sProp 𝕄) :
    (bigSep Finset.univ fun c => four (fun d => Φ c d)) = bigSep Finset.univ fun c => four (fun d => Φ d c) := by
  rw [bigSep_congr fun c _ => (four_eq (fun d => Φ c d)).symm, bigSep_congr fun c _ => (four_eq (fun d => Φ d c)).symm]
  exact BI.bigSep_univ_comm Φ

/-- Going `t + 1` places on, a rearrangement of the devices. -/
def turn (t : Fin 4) : Dev nD ≃ Dev nD := ⟨fun c => fwd c t, fun c => bwd c t, fun c => bwd_fwd c t, fun c => fwd_bwd c t⟩

/-! ## The tokens -/

/-- The tokens of device `c`'s own semaphores, as minted, -/
def minted (c : Dev nD) : sProp 𝕄 := bigSep Finset.univ fun k : KI => four (fun d => dutyTok ER (kcell (c, k)) 0 d)

/-- those that are used, -/
def mint (c : Dev nD) : sProp 𝕄 :=
  iprop(four (fun d => dutyTok ER (barCell c) 0 d) ∗ four (fun d => dutyTok ER (xCell c 0 d) 0 0) ∗ four (fun d => dutyTok ER (xCell c 1 d) 0 0)
    ∗ four (fun d => dutyTok ER (xCell c 2 d) 0 0) ∗ four (fun d => dutyTok ER (xCell c 3 d) 0 0)
    ∗ (dutyTok ER (xCell c 4 0) 0 0 ∗ dutyTok ER (xCell c 4 1) 0 0 ∗ dutyTok ER (xCell c 4 2) 0 0)
    ∗ (dutyTok ER (xCell c 5 0) 0 0 ∗ dutyTok ER (xCell c 5 1) 0 0 ∗ dutyTok ER (xCell c 5 2) 0 0))

/-- and the tokens that device `c` pays with. -/
def purse (c : Dev nD) : sProp 𝕄 :=
  iprop(four (fun d => dutyTok ER (barCell d) 0 c) ∗ four (fun d => dutyTok ER (xCell c 0 d) 0 0) ∗ four (fun d => dutyTok ER (xCell c 1 d) 0 0)
    ∗ four (fun d => dutyTok ER (xCell d 2 c) 0 0) ∗ four (fun d => dutyTok ER (xCell d 3 c) 0 0)
    ∗ (dutyTok ER (xCell c 4 0) 0 0 ∗ dutyTok ER (xCell c 4 1) 0 0 ∗ dutyTok ER (xCell c 4 2) 0 0)
    ∗ (dutyTok ER (xCell (fwd c 0) 5 0) 0 0 ∗ dutyTok ER (xCell (fwd c 1) 5 1) 0 0 ∗ dutyTok ER (xCell (fwd c 2) 5 2) 0 0))

omit [FloatOps F] in
theorem minted_mint (c : Dev nD) : minted c ⊢ (mint c : sProp 𝕄) := by
  have h : ∀ k : Fin 6, (four (fun j => four (fun d => dutyTok ER (xCell c k j) 0 d)) : sProp 𝕄) ⊢ four (fun j => dutyTok ER (xCell c k j) 0 0) := fun k =>
    four_mono fun j => by iintro ⟨H, -⟩; iexact H
  have h' : ∀ k : Fin 6, (four (fun j => four (fun d => dutyTok ER (xCell c k j) 0 d)) : sProp 𝕄)
      ⊢ iprop(dutyTok ER (xCell c k 0) 0 0 ∗ dutyTok ER (xCell c k 1) 0 0 ∗ dutyTok ER (xCell c k 2) 0 0) := fun k => by
    refine (h k).trans ?_
    iintro ⟨H0, H1, H2, -⟩
    isplitl [H0]; · iexact H0
    isplitl [H1] <;> iassumption
  refine (Entails.of_eq (cells_split _)).trans ?_
  show iprop(four (fun d => dutyTok ER (barCell c) 0 d) ∗ four (fun j => four (fun d => dutyTok ER (xCell c 0 j) 0 d)) ∗ four (fun j => four (fun d => dutyTok ER (xCell c 1 j) 0 d))
    ∗ four (fun j => four (fun d => dutyTok ER (xCell c 2 j) 0 d)) ∗ four (fun j => four (fun d => dutyTok ER (xCell c 3 j) 0 d))
    ∗ four (fun j => four (fun d => dutyTok ER (xCell c 4 j) 0 d)) ∗ four (fun j => four (fun d => dutyTok ER (xCell c 5 j) 0 d))) ⊢ _
  unfold mint
  iintro ⟨Hb, H0, H1, H2, H3, H4, H5⟩
  isplitl [Hb]; · iexact Hb
  isplitl [H0]; · iapply (h 0) $$ H0
  isplitl [H1]; · iapply (h 1) $$ H1
  isplitl [H2]; · iapply (h 2) $$ H2
  isplitl [H3]; · iapply (h 3) $$ H3
  isplitl [H4]; · iapply (h' 4) $$ H4
  iapply (h' 5) $$ H5

omit [FloatOps F] in
theorem over_seven (A B C D E P Q : Dev nD → sProp 𝕄) :
    (bigSep Finset.univ fun c => iprop(A c ∗ B c ∗ C c ∗ D c ∗ E c ∗ P c ∗ Q c))
      = iprop((bigSep Finset.univ fun c => A c) ∗ (bigSep Finset.univ fun c => B c) ∗ (bigSep Finset.univ fun c => C c) ∗ (bigSep Finset.univ fun c => D c)
        ∗ (bigSep Finset.univ fun c => E c) ∗ (bigSep Finset.univ fun c => P c) ∗ (bigSep Finset.univ fun c => Q c)) := by
  rw [bigSep_sep', bigSep_sep', bigSep_sep', bigSep_sep', bigSep_sep', bigSep_sep']

omit [FloatOps F] in
/-- The tokens change hands: each goes to the device that pays with it. -/
theorem dealt : (bigSep Finset.univ fun c : Dev nD => (mint c : sProp 𝕄)) = bigSep Finset.univ fun c : Dev nD => purse c := by
  refine (over_seven _ _ _ _ _ _ _).trans (Eq.trans ?_ (over_seven _ _ _ _ _ _ _).symm)
  rw [pairs_swap (fun c d => dutyTok ER (barCell c) 0 d), pairs_swap (fun c d => dutyTok ER (xCell c 2 d) 0 0), pairs_swap (fun c d => dutyTok ER (xCell c 3 d) 0 0)]
  have h : (bigSep Finset.univ fun c : Dev nD => (iprop(dutyTok ER (xCell c 5 0) 0 0 ∗ dutyTok ER (xCell c 5 1) 0 0 ∗ dutyTok ER (xCell c 5 2) 0 0) : sProp 𝕄))
      = bigSep Finset.univ fun c : Dev nD => iprop(dutyTok ER (xCell (fwd c 0) 5 0) 0 0 ∗ dutyTok ER (xCell (fwd c 1) 5 1) 0 0 ∗ dutyTok ER (xCell (fwd c 2) 5 2) 0 0) := by
    rw [bigSep_sep', bigSep_sep', bigSep_sep', bigSep_sep',
      bigSep_univ_equiv (turn 0) (fun c : Dev nD => (dutyTok ER (xCell c 5 0) 0 0 : sProp 𝕄)),
      bigSep_univ_equiv (turn 1) (fun c : Dev nD => (dutyTok ER (xCell c 5 1) 0 0 : sProp 𝕄)),
      bigSep_univ_equiv (turn 2) (fun c : Dev nD => (dutyTok ER (xCell c 5 2) 0 0 : sProp 𝕄))]
    rfl
  rw [h]

omit [FloatOps F] in
theorem purse_dues (c : Dev nD) : purse c ⊢ (dues c : sProp 𝕄) := by
  have h : (four (fun d => toks (F := F) c d) : sProp 𝕄) = iprop(four (fun d => dutyTok ER (xCell c 0 d) 0 0) ∗ four (fun d => dutyTok ER (xCell d 2 c) 0 0)
      ∗ four (fun d => dutyTok ER (xCell c 1 d) 0 0) ∗ four (fun d => dutyTok ER (xCell d 3 c) 0 0)) := by
    unfold toks
    rw [four_sep, four_sep, four_sep]
  unfold purse dues gtok
  rw [h]
  iintro ⟨Hb, H0, H1, H2, H3, ⟨H40, H41, H42⟩, H50, H51, H52⟩
  isplitl [Hb]; · iexact Hb
  isplitl [H0 H1 H2 H3]
  · isplitl [H0]; · iexact H0
    isplitl [H2]; · iexact H2
    isplitl [H1] <;> iassumption
  isplitl [H40 H50]; · (isplitl [H40] <;> iassumption)
  isplitl [H41 H51]; · (isplitl [H41] <;> iassumption)
  isplitl [H42] <;> iassumption

/-! ## From the launch to the protocol -/

/-- What the launch element deals device `c`, -/
def G (c : Dev nD) : sProp 𝕄 :=
  iprop((bigSep Finset.univ fun k : KI => roundState ER (Rd m) (kcell (c, k)) 0)
    ∗ (bigSep Finset.univ fun k : KI => iprop(atPos ER (kcell (c, k)) 0 ∅ 0 ∗ reached ER (kcell (c, k)) 0)) ∗ minted c)
/-- what the exchange makes of it. -/
def G' (c : Dev nD) : sProp 𝕄 := iprop(∃ K, recs m K ∗ spots c ∗ dues c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted
    rw [bigSep_map, bigSep_univ_prod, bigSep_univ_prod]
    exact bigSep_congr fun c _ => bigSep_congr fun k _ => four_eq _
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own transfer semaphores. -/
abbrev osem : Fin 6 × Fin 4 → SemLoc sig := fun p => .dma (xsem p.1 p.2)

theorem ownSemFacts : Pipeline.OwnSemFacts cfg0.spec osem := by decide

abbrev ownZ (c : Dev nD) : sProp 𝕄 := Pipeline.ownSems0 (Ix := Unit) (Name := ℕ) (U := UU) (Lvl := ℕ) (Val := Elt F) (τ := τ) osem c

omit [FloatOps F] in
theorem ownZ_eq (c : Dev nD) : (ownZ c : sProp 𝕄) = bigSep Finset.univ fun p : Fin 6 × Fin 4 => semVal (xCell c p.1 p.2) 0 := rfl
omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All semaphores of a device at zero, array by array. -/
theorem own_split (c : Dev nD) : (ownZ c : sProp 𝕄) = iprop(four (fun j => semVal (xCell c 0 j) 0) ∗ four (fun j => semVal (xCell c 1 j) 0) ∗ four (fun j => semVal (xCell c 2 j) 0)
      ∗ four (fun j => semVal (xCell c 3 j) 0) ∗ four (fun j => semVal (xCell c 4 j) 0) ∗ four (fun j => semVal (xCell c 5 j) 0)) := by
  rw [ownZ_eq, bigSep_univ_prod, bigSep_univ_eq_bigSepL [(0 : Fin 6), 1, 2, 3, 4, 5] (by decide) (by decide)]
  simp only [bigSepL_cons_cons, bigSepL_singleton]
  simp only [four_eq]
  rfl

omit [FloatOps F] in
theorem sems_in (c : Dev nD) : iprop(ownZ c ∗ unscopedSems0 c) ⊢ (bigSep Finset.univ fun k : KI => semVal (kcell (c, k)) 0 : sProp 𝕄) := by
  rw [cells_split, own_split, unscoped_eq]
  iintro ⟨H, Hb⟩
  isplitl [Hb]; · iexact Hb
  iexact H

theorem sems_out (c : Dev nD) : zeros c ⊢ (iprop(unscopedSems0 c ∗ ownZ c) : sProp 𝕄) := by
  rw [own_split, unscoped_eq]
  unfold zeros
  rw [four_sep, four_sep, four_sep]
  iintro ⟨Hb, ⟨H0, H1⟩, ⟨H2, H3⟩, H4, H5⟩
  isplitl [Hb]; · iexact Hb
  isplitl [H0]; · iexact H0
  isplitl [H1]; · iexact H1
  isplitl [H2]; · iexact H2
  isplitl [H3]; · iexact H3
  isplitl [H4] <;> iassumption

theorem core_alloc (c : Dev nD) :
    (iprop(ownZ c ∗ unscopedSems0 c ∗ G m c) : sProp 𝕄)
      ⊢ |={Set.univ}=> iprop((bigSep Finset.univ fun k : KI => iprop(∃ κ : ℕ, cellInv ER (Rd m) κ (kcell (c, k))))
          ∗ (bigSep Finset.univ fun k : KI => iprop(atPos ER (kcell (c, k)) 0 ∅ 0 ∗ reached ER (kcell (c, k)) 0)) ∗ mint c) := by
  unfold G
  iintro ⟨Hos, Hus, Hst, Hat, Htok⟩
  ihave Hv := (sems_in (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k : KI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iapply (minted_mint c) $$ Htok

theorem spots_eq (c : Dev nD) : (bigSep Finset.univ fun k : KI => (atPos ER (kcell (c, k)) 0 ∅ 0 : sProp 𝕄)) ⊢ spots c := by
  rw [cells_split]
  unfold spots places
  rw [four_sep, four_sep, four_sep]
  iintro ⟨Hb, H0, H1, H2, H3, H4, H5⟩
  isplitl [Hb]; · iexact Hb
  isplitl [H0 H1]
  · isplitl [H0]; · iexact H0
    iexact H1
  isplitl [H2 H3]
  · isplitl [H2]; · iexact H2
    iexact H3
  isplitl [H4]; · iexact H4
  iexact H5

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KI => iprop(∃ κ : ℕ, cellInv ER (Rd m) κ (kcell (c, k))))
          ∗ (bigSep Finset.univ fun k : KI => iprop(atPos ER (kcell (c, k)) 0 ∅ 0 ∗ reached ER (kcell (c, k)) 0)) ∗ mint c) : sProp 𝕄)
      ⊢ bigSep Finset.univ (G' m) := by
  rw [bigSep_sep', bigSep_sep', dealt, ← bigSep_univ_prod (fun ck : Dev nD × KI => iprop(∃ κ : ℕ, cellInv ER (Rd m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, HR⟩, Htok⟩
  ihave HK := (BI.bigSep_exists_pi Finset.univ (fun (ck : Dev nD × KI) (κ : ℕ) => (cellInv ER (Rd m) κ (kcell ck) : sProp 𝕄))) $$ HI
  icases HK with ⟨%K, HI⟩
  iapply (with_all (R := recs m K) (Φ := fun c => iprop((bigSep Finset.univ fun k : KI => (atPos ER (kcell (c, k)) 0 ∅ 0 : sProp 𝕄)) ∗ purse c)) (fun c _ => by
    unfold G'
    iintro ⟨HR, Ha, Hp⟩
    iexists K
    isplitl [HR]; · iexact HR
    isplitl [Ha]; · iapply (spots_eq c) $$ Ha
    iapply (purse_dues c) $$ Hp))
  isplitl [HI HR]
  · unfold recs
    rw [bigSep_sep']
    isplitl [HI] <;> iassumption
  · rw [bigSep_sep']
    isplitl [Hat] <;> iassumption

/-- The global step: all devices' semaphores become invariants, tokens dealt. -/
theorem glob : (bigSep Finset.univ fun c => iprop(ownZ c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

theorem bar_iff (c d : Dev nD) : barCell c = barCell d ↔ c = d :=
  ⟨fun h => congrArg (fun g : GSem nD τ sig => g.1.1) h, fun h => h ▸ rfl⟩
theorem bar_x (c d : Dev nD) (f : Fin 6) (j : Fin 4) : ¬ barCell c = xCell d f j := fun h => by have h := congrArg Prod.snd h; cases h
theorem x_bar (c d : Dev nD) (f : Fin 6) (j : Fin 4) : ¬ xCell d f j = barCell c := fun h => by have h := congrArg Prod.snd h; cases h
theorem x_iff (c d : Dev nD) (f g : Fin 6) (j i : Fin 4) : xCell c f j = xCell d g i ↔ c = d ∧ f = g ∧ j = i := by
  constructor
  · intro h
    have h' := kcell_inj (a₁ := (c, some (f, j))) (a₂ := (d, some (g, i))) h
    simp only [Prod.mk.injEq, Option.some.injEq] at h'
    exact h'
  · rintro ⟨rfl, rfl, rfl⟩; rfl

/-- What the devices together owe each semaphore of device `c`. -/
theorem total_bar (c : Dev nD) : ∑ d : Dev nD, O₀ d (barCell c) () = 3 := by
  unfold O₀ owe owB owX owG
  simp only [List.map_cons, List.map_nil, List.sum_cons, List.sum_nil, Pi.add_apply, Finsupp.add_apply, Pi.zero_apply, Finsupp.zero_apply, tallyAt_apply,
    bar_iff, bar_x, and_true, false_and, if_false, add_zero]
  revert c; decide
theorem total_C (c j : Dev nD) : ∑ d : Dev nD, O₀ d (xCell c 2 j) () = if c = j then 0 else NC := by
  unfold O₀ owe owB owX owG
  simp only [List.map_cons, List.map_nil, List.sum_cons, List.sum_nil, Pi.add_apply, Finsupp.add_apply, Pi.zero_apply, Finsupp.zero_apply, tallyAt_apply,
    x_iff, x_bar, and_true, false_and, if_false, add_zero, zero_add]
  generalize NC = n; generalize NS = n'; generalize NG = n''
  rw [Fin.sum_univ_four]
  fin_cases c <;> fin_cases j <;> simp [Fin.ext_iff, nD]
theorem total_S (c j : Dev nD) : ∑ d : Dev nD, O₀ d (xCell c 3 j) () = if c = j then 0 else NS := by
  unfold O₀ owe owB owX owG
  simp only [List.map_cons, List.map_nil, List.sum_cons, List.sum_nil, Pi.add_apply, Finsupp.add_apply, Pi.zero_apply, Finsupp.zero_apply, tallyAt_apply,
    x_iff, x_bar, and_true, false_and, if_false, add_zero, zero_add]
  generalize NC = n; generalize NS = n'; generalize NG = n''
  rw [Fin.sum_univ_four]
  fin_cases c <;> fin_cases j <;> simp [Fin.ext_iff, nD]
theorem total_G (c : Dev nD) (t : Fin 4) (ht : t ≠ 3) : ∑ d : Dev nD, O₀ d (xCell c 5 t) () = NG := by
  unfold O₀ owe owB owX owG
  simp only [List.map_cons, List.map_nil, List.sum_cons, List.sum_nil, Pi.add_apply, Finsupp.add_apply, Pi.zero_apply, Finsupp.zero_apply, tallyAt_apply,
    x_iff, x_bar, and_true, false_and, if_false, add_zero, zero_add]
  generalize NC = n; generalize NS = n'; generalize NG = n''
  rw [Fin.sum_univ_four]
  fin_cases c <;> fin_cases t <;> first | exact absurd rfl ht | simp [Fin.ext_iff, fwd, nD]

/-- The launch's credit for a semaphore of device `c`, the total known. -/
theorem launch_at (c : Dev nD) (k : KI) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ gets c := by
  have hsub : (Pipeline.launchCred O₀ c : sProp 𝕄)
      ⊢ bigSep Finset.univ fun k : KI => cred (tallyOn (kcell (c, k)) (launchCredit (Pipeline.owing O₀) 0 (kcell (c, k)))) := by
    have hinj : Function.Injective (fun k : KI => (kcell (c, k)).2) := fun k k' h => by
      have h' : kcell (c, k) = kcell (c, k') := Prod.ext (by rcases k with _ | p <;> rcases k' with _ | p' <;> rfl) h
      exact (Prod.mk.inj (kcell_inj h')).2
    unfold Pipeline.launchCred
    refine (bigSep_subset (Finset.subset_univ (Finset.univ.map ⟨_, hinj⟩))).trans ?_
    rw [bigSep_map]
    have hk : ∀ k : KI, ((c : Thread nD τ), (kcell (c, k)).2) = kcell (c, k) := fun k => by rcases k with _ | p <;> rfl
    refine bigSep_mono fun k _ => ?_
    show cred (tallyOn ((c : Thread nD τ), (kcell (c, k)).2) (launchCredit (Pipeline.owing O₀) 0 ((c : Thread nD τ), (kcell (c, k)).2))) ⊢ _
    rw [hk]
  have hx : ∀ (f : Fin 6) (j : Fin 4) (n : ℕ), ∑ d : Dev nD, O₀ d (xCell c f j) () = n →
      (cred (tallyOn (kcell (c, some (f, j))) (launchCredit (Pipeline.owing O₀) 0 (kcell (c, some (f, j))))) : sProp 𝕄) ⊢ cred (tallyAt (xCell c f j) () n) :=
    fun f j n h => Entails.of_eq (by rw [launch_at c (some (f, j)) n h]; rfl)
  refine hsub.trans ?_
  rw [cells_split]
  unfold gets
  iintro ⟨Hb, -, -, H2, H3, -, ⟨H50, H51, H52, -⟩⟩
  isplitl [Hb]
  · iapply (Entails.of_eq (by rw [launch_at c none 3 (total_bar c)]; rfl) :
      (cred (tallyOn (kcell (c, none)) (launchCredit (Pipeline.owing O₀) 0 (kcell (c, none)))) : sProp 𝕄) ⊢ cred (tallyAt (barCell c) () 3)) $$ Hb
  isplitl [H2 H3]
  · ihave H := (Entails.of_eq (four_sep _ _).symm) $$ [H2 H3]
    · isplitl [H2]; · iexact H2
      iexact H3
    iapply (four_mono fun j => ?_) $$ H
    unfold owed
    by_cases h : c = j
    · rw [if_pos h]; iintro -; iempintro
    · rw [if_neg h]
      iintro ⟨H2, H3⟩
      isplitl [H2]
      · iapply (hx 2 j NC ((total_C c j).trans (if_neg h))) $$ H2
      · iapply (hx 3 j NS ((total_S c j).trans (if_neg h))) $$ H3
  isplitl [H50]; · iapply (hx 5 0 NG (total_G c 0 (by decide))) $$ H50
  isplitl [H51]; · iapply (hx 5 1 NG (total_G c 1 (by decide))) $$ H51
  iapply (hx 5 2 NG (total_G c 2 (by decide))) $$ H52

end Cert.KernelIdeal.Hand

end
-- ==== Proof.KernelIdeal.Run.lean ====
/-
The whole program's run: the launch on four devices, the body of each, and what every final state holds.
-/
module

public import proofs.«01_k».proof.Proof.KernelIdeal.Ghost
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

def st₀ : MemSt nD τ sig (Elt F) := ⟨m, fun _ => 0, ρ⟩

/-- What a device has when it enters the region. -/
def start (c : Dev nD) : sProp 𝕄 := iprop(∃ K, recs m K ∗ levAts L lv ∗ spots c ∗ dues c ∗ gets c)

/-- The region's proof data on device `c`: the inputs' blocks stay, the result becomes `outV`; before the body the
    protocol's state and the scratch buffers, after it the semaphores at zero and the scratch buffers. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => aX m c
    | ⟨1, _⟩ => aQ m c
    | ⟨2, _⟩ => aK m c
    | ⟨3, _⟩ => aV m c
    | ⟨4, _⟩ => aO m c
    | ⟨5, _⟩ => outV m c
  Φ t := match t with
    | ⟨0, _⟩ => iprop(start m c ∗ bufs c)
    | ⟨_ + 1, _⟩ => iprop(zeros c ∗ bufs c)
  q _ := fullShare
  owed t := match t with
    | ⟨0, _⟩ => O₀ c
    | ⟨_ + 1, _⟩ => 0

/-- The staging buffer at contents `X`. -/
abbrev stg (c : Dev nD) (b : Ref sig .tc) (X : b.ty.Contents (Elt F)) : sProp 𝕄 := owns (c : Thread nD τ) (Memref.whole b) fullShare X

section Before
variable (c : Dev nD)
theorem before_0 (d) : (dats m ρ 0 c).before (0 : Fin 6) t0_0 d = aX m c := by unfold Dat.before; rw [if_pos (fetch0_0 t0_0)]; rfl
theorem before_1 (d) : (dats m ρ 0 c).before (1 : Fin 6) t0_0 d = aQ m c := by unfold Dat.before; rw [if_pos (fetch0_1 t0_0)]; rfl
theorem before_2 (d) : (dats m ρ 0 c).before (2 : Fin 6) t0_0 d = aK m c := by unfold Dat.before; rw [if_pos (fetch0_2 t0_0)]; rfl
theorem before_3 (d) : (dats m ρ 0 c).before (3 : Fin 6) t0_0 d = aV m c := by unfold Dat.before; rw [if_pos (fetch0_3 t0_0)]; rfl
theorem before_4 (d) : (dats m ρ 0 c).before (4 : Fin 6) t0_0 d = aO m c := by unfold Dat.before; rw [if_pos (fetch0_4 t0_0)]; rfl
end Before

def bodyPre (c : Dev nD) : sProp 𝕄 :=
  iprop((start m c ∗ bufs c) ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop((zeros c ∗ bufs c) ∗ (dats m ρ 0 c).owesAt () t0_0.succ
    ∗ stg c cc0_stg0_0 (aX m c) ∗ stg c cc0_stg1_0 (aQ m c) ∗ stg c cc0_stg2_0 (aK m c) ∗ stg c cc0_stg3_0 (aV m c) ∗ stg c cc0_stg4_0 (aO m c)
    ∗ stg c cc0_stg5_0 (outV m c))

theorem body_meets (c : Dev nD) : bodyPre m ρ c ⊢ (Runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m ρ c) : sProp 𝕄) := by
  unfold bodyPre start
  simp only [before_0, before_1, before_2, before_3, before_4]
  iintro ⟨⟨⟨%K, #HR, #HL, Hsp, Hd, Hg⟩, Hb⟩, Ho, ⟨%d0, H0⟩, ⟨%d1, H1⟩, ⟨%d2, H2⟩, ⟨%d3, H3⟩, ⟨%d4, H4⟩, ⟨%d5, H5⟩⟩
  ihave Ho' := (show (dats m ρ 0 c).owesAt () t0_0.castSucc ⊢ (ow c (O₀ c) : sProp 𝕄) from by
    unfold Dat.owesAt Pipeline.owesWithin ow
    iintro ⟨%W, -, H⟩
    iexists W
    iexact H) $$ Ho
  ihave Hp := (body_runs m K c) $$ [Hsp Hd Hg Hb Ho' H0 H1 H2 H3 H4 H5]
  · isplitr; · iexact HR
    isplitr; · iexact HL
    isplitl [Ho']; · iexact Ho'
    isplitl [Hsp]; · iexact Hsp
    isplitl [Hd]; · iexact Hd
    isplitl [Hg]; · iexact Hg
    isplitl [Hb]; · iapply (bufs_room c) $$ Hb
    isplitl [H5]
    · iapply (out_cut c)
      iexists _; iexact H5
    unfold ins
    isplitl [H0]; · iexact H0
    isplitl [H1]; · iexact H1
    isplitl [H2]; · iexact H2
    isplitl [H3]; · iexact H3
    iexact H4
  unfold Runs
  iapply wp_wand $$ Hp
  iintro %r ⟨HO, Hz, Hr, Hdn, Hin⟩
  unfold bodyPost ins
  icases Hin with ⟨H0, H1, H2, H3, H4⟩
  isplitl [Hz Hr]
  · isplitl [Hz]; · iexact Hz
    iapply (room_bufs c) $$ Hr
  isplitl [HO]
  · iapply (show (ow c (owe c [] [] []) : sProp 𝕄) ⊢ (dats m ρ 0 c).owesAt () t0_0.succ from by
      rw [owe_nil]
      unfold Dat.owesAt Pipeline.owesWithin ow
      iintro ⟨%W, H⟩
      iexists W
      isplitr; · (ipureintro; exact fun _ _ => Or.inl trivial)
      iexact H) $$ HO
  isplitl [H0]; · iexact H0
  isplitl [H1]; · iexact H1
  isplitl [H2]; · iexact H2
  isplitl [H3]; · iexact H3
  isplitl [H4]; · iexact H4
  iapply (out_glue m c) $$ Hdn

set_option maxRecDepth 4000 in
/-- The body meets its obligation on every device. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ]
  exact body_meets m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  unfold G' start
  iintro ⟨-, Hl, Hc, -, ⟨%K, HR, Hs, Hd⟩⟩
  ihave Hc := (creds c) $$ Hc
  imodintro
  isplitl
  · iexists K
    isplitl [HR]; · iexact HR
    isplitl [Hl]; · iexact Hl
    isplitl [Hs]; · iexact Hs
    isplitl [Hd] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs c) from rfl, scoped_bufs]
  iintro ⟨Hs, -, Hr⟩
  isplitl [Hs] <;> iassumption

theorem leave (c : Dev nD) :
    (dats m ρ 0 c).Φ (Fin.last cfg0.N) ⊢ iprop(unscopedSems0 c ∗ ownZ c ∗ Pipeline.scopedRest cfg0.spec c) := by
  rw [show (dats m ρ 0 c).Φ (Fin.last cfg0.N) = iprop(zeros c ∗ bufs c) from rfl, scoped_bufs]
  iintro ⟨Hz, Hb⟩
  ihave Hz := (sems_out c) $$ Hz
  icases Hz with ⟨H1, H2⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), SemLoc.dma ((cfg0.win w).sem s)) () ≤ 0 := by
      fin_cases w <;> fin_cases s <;> exact Nat.le_refl 0
    rcases t with ⟨_ | _, ht⟩
    · exact mayWait_owe c _ _ _ _ 0 hl (fun _ => by decide) (fun _ => by decide) (by decide)
    · show levAts L lv ⊢ MayWait _ _ _ 0
      rw [MayWait_zero]; iintro -; iempintro

/-! ## The run -/

/-- The contents of window `w`'s array when the program ends. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with every counter at zero: every weakly fair execution
    ends, with each array as computed and every semaphore counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The frame: every execution ends, the arguments unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c (0 : Fin 6)).trans ((dats (F := F) m ρ 0 c).arrAt_in (0 : Fin 6) rfl _), (h.1 c (1 : Fin 6)).trans ((dats (F := F) m ρ 0 c).arrAt_in (1 : Fin 6) rfl _),
      (h.1 c (2 : Fin 6)).trans ((dats (F := F) m ρ 0 c).arrAt_in (2 : Fin 6) rfl _), (h.1 c (3 : Fin 6)).trans ((dats (F := F) m ρ 0 c).arrAt_in (3 : Fin 6) rfl _),
      (h.1 c (4 : Fin 6)).trans ((dats (F := F) m ρ 0 c).arrAt_in (4 : Fin 6) rfl _)⟩, h.2⟩) (run_main m ρ)

end Cert.KernelIdeal.Hand

end
-- ==== Proof.Value.Result.lean ====
/-
What a run of the kernel leaves: the result on every device is `outV`, the arguments are unchanged, and the blocks that
the region reads are the argument arrays.
-/
module

public import proofs.«01_k».proof.Proof.KernelIdeal.Run
public import Idealize.ShloMosaic.Lib.Pipeline.Value

@[expose] public section

noncomputable section

namespace Cert.KernelIdeal.Hand

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- Every window's block starts at the array's first element, -/
theorem off_zero (w : Fin cfg0.W) (a) : (cfg0.win w).kind.off ((cfg0.win w).index t0_0 a) ((cfg0.win w).size a) = 0 := by
  revert a; revert w; decide +kernel

/-- so an element of the block has the same index in the array: -/
theorem emb_val (w : Fin cfg0.W) (y : ((cfg0.win w).xblock (cfg0.grid.coords t0_0)).Idx) (a) :
    (((cfg0.win w).rect t0_0).emb y a).val = (y a).val := by
  rw [Window.rect_emb_val_off, off_zero, Nat.zero_add]

theorem emb_0 (y : S2x256x512.Idx) : ((cfg0.win 0).blk t0_0).view.emb y = y := funext fun a => Fin.ext (emb_val 0 y a)
theorem emb_1 (y : S512x256.Idx) : ((cfg0.win 1).blk t0_0).view.emb y = y := funext fun a => Fin.ext (emb_val 1 y a)
theorem emb_2 (y : S2x256x4x64.Idx) : ((cfg0.win 2).blk t0_0).view.emb y = y := funext fun a => Fin.ext (emb_val 2 y a)
theorem emb_3 (y : S2x256x4x64.Idx) : ((cfg0.win 3).blk t0_0).view.emb y = y := funext fun a => Fin.ext (emb_val 3 y a)
theorem emb_4 (y : S256x512.Idx) : ((cfg0.win 4).blk t0_0).view.emb y = y := funext fun a => Fin.ext (emb_val 4 y a)
theorem emb_5 (y : S2x256x512.Idx) : ((cfg0.win 5).blk t0_0).view.emb y = y := funext fun a => Fin.ext (emb_val 5 y a)

theorem aX_eq : aX m c = m ((c.tc : Thread nD τ).loc main_arg0) :=
  funext fun y => congrArg (m ((c.tc : Thread nD τ).loc main_arg0)) (emb_0 y)
theorem aQ_eq : aQ m c = m ((c.tc : Thread nD τ).loc main_arg1) :=
  funext fun y => congrArg (m ((c.tc : Thread nD τ).loc main_arg1)) (emb_1 y)
theorem aK_eq : aK m c = m ((c.tc : Thread nD τ).loc main_arg2) :=
  funext fun y => congrArg (m ((c.tc : Thread nD τ).loc main_arg2)) (emb_2 y)
theorem aV_eq : aV m c = m ((c.tc : Thread nD τ).loc main_arg3) :=
  funext fun y => congrArg (m ((c.tc : Thread nD τ).loc main_arg3)) (emb_3 y)
theorem aO_eq : aO m c = m ((c.tc : Thread nD τ).loc main_arg4) :=
  funext fun y => congrArg (m ((c.tc : Thread nD τ).loc main_arg4)) (emb_4 y)

/-- The result's array ends at `outV`. -/
theorem final_out : finalA m ρ c (5 : Fin 6) = outV m c := by
  refine (dats m ρ 0 c).arrAt_eq_of_cover (5 : Fin 6) (outV m c) (fun t _ => ?_) (fun i => ⟨t0_0, flush0_5 t0_0, ?_⟩)
  · rw [show t = t0_0 from fin_N0 t]
    exact funext fun y => (congrArg (outV m c) (emb_5 y)).symm
  · rw [← emb_5 i]
    exact View.emb_mem_set _ _

/-- Every execution ends with the result at `outV` on each device and the arguments unchanged. -/
theorem value_run : θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c (5 : Fin 6)).trans (final_out m ρ c),
      (h.1 c (0 : Fin 6)).trans ((dats (F := F) m ρ 0 c).arrAt_in (0 : Fin 6) rfl _), (h.1 c (1 : Fin 6)).trans ((dats (F := F) m ρ 0 c).arrAt_in (1 : Fin 6) rfl _),
      (h.1 c (2 : Fin 6)).trans ((dats (F := F) m ρ 0 c).arrAt_in (2 : Fin 6) rfl _), (h.1 c (3 : Fin 6)).trans ((dats (F := F) m ρ 0 c).arrAt_in (3 : Fin 6) rfl _),
      (h.1 c (4 : Fin 6)).trans ((dats (F := F) m ρ 0 c).arrAt_in (4 : Fin 6) rfl _)⟩) (run_main m ρ)

end Cert.KernelIdeal.Hand

end
-- ==== Proof.Value.Attention.lean ====
/-
Masked attention over extended reals, as a formula of its arrays' elements, and the arithmetic that lets the two programs
be read as it: a softmax with the row's maximum taken off is the softmax without, and a scale may move through the sums.
-/
module

public import Idealize.ShloMosaic.PureOps
public import Idealize.ShloMosaic.Lib.Pointwise

@[expose] public section

noncomputable section

namespace Cert.Attention

open Idealize.ShloMosaic

/-! ## The formula -/

/-- Whether a query in block `q` sees the keys of block `k`. -/
def seen (q k : ℕ) : BitVec 1 := if k = q ∨ k = 0 ∨ (q + k) % 3 = 0 then 1 else 0

/-- Lane `d` of head `h` among all lanes. -/
def lane (h : Fin 4) (d : Fin 64) : Fin 256 := ⟨h.val * 64 + d.val, by omega⟩
/-- The head and the place in it of a lane. -/
def headOf (l : Fin 256) : Fin 4 := ⟨l.val / 64, by omega⟩
def placeOf (l : Fin 256) : Fin 64 := ⟨l.val % 64, by omega⟩

/-- The scale of the scores, and what stands in a masked score's place. -/
def scale : EReal := Ideal.ofBits .f32 0x3E000000#32
def low : EReal := Ideal.ofBits .f32 0xCE6E6B28#32

section Formula
variable (x : Fin 2 → Fin 256 → Fin 512 → EReal) (wq : Fin 512 → Fin 256 → EReal) (k v : Fin 2 → Fin 1024 → Fin 4 → Fin 64 → EReal)
  (wo : Fin 256 → Fin 512 → EReal)

/-- The score of query row `i` against key `j`. -/
def score (b : Fin 2) (h : Fin 4) (i : Fin 256) (j : Fin 1024) : EReal :=
  (∑ d, (∑ e, x b i e * wq e (lane h d)) * k b j h d) * scale
/-- The same after the mask. -/
def masked (b : Fin 2) (h : Fin 4) (i : Fin 256) (j : Fin 1024) : EReal :=
  Scalar.select (seen (i.val / 64) (j.val / 64)) (score x wq k b h i j) low
/-- The exponentials' sum over all keys, and their sum against the values. -/
def mass (b : Fin 2) (h : Fin 4) (i : Fin 256) : EReal := ∑ j, Ideal.exp (masked x wq k b h i j)
def pull (b : Fin 2) (h : Fin 4) (i : Fin 256) (d : Fin 64) : EReal := ∑ j, Ideal.exp (masked x wq k b h i j) * v b j h d
/-- The context and the result. -/
def ctx (b : Fin 2) (h : Fin 4) (i : Fin 256) (d : Fin 64) : EReal := Ideal.div (pull x wq k v b h i d) (mass x wq k b h i)
def out (b : Fin 2) (i : Fin 256) (n : Fin 512) : EReal := ∑ l, ctx x wq k v b (headOf l) i (placeOf l) * wo l n
end Formula

/-! ## The two constants -/

theorem scale_eq : scale = ((1 / 8 : ℝ) : EReal) := by
  simp [scale, Ideal.ofBits, Ideal.ieee, -EReal.coe_mul]; norm_num
theorem low_eq : low = ((-1000000000 : ℝ) : EReal) := by
  simp [low, Ideal.ofBits, Ideal.ieee, -EReal.coe_mul]; norm_num

/-! ## Sums -/

/-- A nonnegative factor below infinity moves into a sum. -/
theorem sum_mul_of_nonneg {ι : Type} (s : Finset ι) (f : ι → EReal) {r : EReal} (h0 : 0 ≤ r) (ht : r ≠ ⊤) :
    (∑ i ∈ s, f i) * r = ∑ i ∈ s, f i * r := by
  classical
  induction s using Finset.induction with
  | empty => simp
  | insert a s ha ih => rw [Finset.sum_insert ha, Finset.sum_insert ha, EReal.right_distrib_of_nonneg_of_ne_top h0 ht, ih]

theorem scale_nonneg : 0 ≤ scale := by rw [scale_eq]; exact_mod_cast (by norm_num : (0 : ℝ) ≤ 1 / 8)
theorem scale_ne_top : scale ≠ ⊤ := by rw [scale_eq]; exact EReal.coe_ne_top _

/-- The scale inside the weights is the scale of the score. -/
theorem scale_out {m n : ℕ} (f : Fin n → EReal) (w : Fin n → Fin m → EReal) (y : Fin m → EReal) :
    ∑ d, (∑ e, f e * (w e d * scale)) * y d = (∑ d, (∑ e, f e * w e d) * y d) * scale := by
  rw [sum_mul_of_nonneg _ _ scale_nonneg scale_ne_top]
  refine Finset.sum_congr rfl fun d _ => ?_
  rw [mul_right_comm, sum_mul_of_nonneg _ _ scale_nonneg scale_ne_top]
  exact congrArg (· * y d) (Finset.sum_congr rfl fun e _ => (mul_assoc _ _ _).symm)

/-- A sum of real values is real. -/
theorem sum_real {ι : Type} (s : Finset ι) (f : ι → EReal) (h : ∀ i ∈ s, ∃ r : ℝ, f i = r) : ∃ r : ℝ, ∑ i ∈ s, f i = r := by
  classical
  induction s using Finset.induction with
  | empty => exact ⟨0, by simp⟩
  | insert a s ha ih =>
    obtain ⟨p, hp⟩ := h a (Finset.mem_insert_self a s)
    obtain ⟨q, hq⟩ := ih fun i hi => h i (Finset.mem_insert_of_mem hi)
    exact ⟨p + q, by rw [Finset.sum_insert ha, hp, hq, EReal.coe_add]⟩

theorem mul_real {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

/-- A sum over all keys is the sum over the devices of the sums over each one's keys. -/
theorem sum_devices (f : Fin 1024 → EReal) :
    ∑ j, f j = ∑ c : Fin 4, ∑ j : Fin 256, f ⟨c.val * 256 + j.val, by omega⟩ := by
  rw [← Fintype.sum_prod_type' (f := fun (c : Fin 4) (j : Fin 256) => f ⟨c.val * 256 + j.val, by omega⟩)]
  refine (Fintype.sum_equiv (finProdFinEquiv (m := 4) (n := 256)) _ _ fun p => congrArg f (Fin.ext ?_)).symm
  show p.1.val * 256 + p.2.val = p.2.val + 256 * p.1.val
  omega

/-! ## The softmax -/

/-- A greatest of real values is real. -/
theorem fold_max_real {ι : Type} (s : Finset ι) (hs : s.Nonempty) (f : ι → EReal) (h : ∀ i, ∃ r : ℝ, f i = r) :
    ∃ r : ℝ, s.fold max ⊥ f = r := by
  classical
  induction hs using Finset.Nonempty.cons_induction with
  | singleton a => obtain ⟨p, hp⟩ := h a; exact ⟨p, by simp [hp]⟩
  | cons a s ha hs ih =>
    obtain ⟨p, hp⟩ := h a
    obtain ⟨q, hq⟩ := ih
    rw [Finset.fold_cons, hp, hq]
    rcases max_choice (p : EReal) (q : EReal) with e | e
    · exact ⟨p, e⟩
    · exact ⟨q, e⟩

/-- The softmax of real scores against any values: with a real number taken off every score, each weight divided on its own,
    it is the exponentials' sum against the values over their sum. -/
theorem softmax_shift {n : ℕ} (hn : 0 < n) (s v : Fin n → EReal) (M : EReal) (hs : ∀ j, ∃ r : ℝ, s j = r) (hM : ∃ r : ℝ, M = r) :
    ∑ j, v j * Ideal.div (Ideal.exp (s j - M)) (∑ i, Ideal.exp (s i - M))
      = Ideal.div (∑ j, Ideal.exp (s j) * v j) (∑ i, Ideal.exp (s i)) := by
  haveI : Nonempty (Fin n) := ⟨⟨0, hn⟩⟩
  choose r hr using hs
  obtain ⟨μ, rfl⟩ := hM
  have hE : ∀ j, Ideal.exp (s j) = ((Real.exp (r j) : ℝ) : EReal) := fun j => by rw [hr j]; rfl
  have hD : ∀ j, Ideal.exp (s j - (μ : EReal)) = ((Real.exp (r j - μ) : ℝ) : EReal) := fun j => by
    rw [hr j, ← EReal.coe_sub]; rfl
  have cast_sum : ∀ g : Fin n → ℝ, ∑ i, ((g i : ℝ) : EReal) = ((∑ i, g i : ℝ) : EReal) := fun g =>
    (map_sum (⟨⟨Real.toEReal, EReal.coe_zero⟩, EReal.coe_add⟩ : ℝ →+ EReal) g Finset.univ).symm
  have pos : ∀ g : Fin n → ℝ, 0 < ∑ i, Real.exp (g i) := fun g =>
    Finset.sum_pos (fun i _ => Real.exp_pos _) Finset.univ_nonempty
  simp only [hE, hD, cast_sum]
  rw [Ideal.div_coe (pos _).ne', sum_mul_of_nonneg _ _ (by exact_mod_cast (one_div_pos.mpr (pos _)).le) (EReal.coe_ne_top _)]
  refine Finset.sum_congr rfl fun j _ => ?_
  rw [Ideal.div_coe (pos _).ne', ← EReal.coe_mul, mul_comm (v j), mul_right_comm, ← EReal.coe_mul]
  congr 2
  have hsum : ∑ i, Real.exp (r i - μ) = (∑ i, Real.exp (r i)) / Real.exp μ := by
    rw [Finset.sum_div]; exact Finset.sum_congr rfl fun i _ => Real.exp_sub _ _
  have h1 := (pos r).ne'
  have h2 := (Real.exp_pos μ).ne'
  rw [hsum, Real.exp_sub]
  field_simp

/-! ## Real scores -/

section Real
variable {x : Fin 2 → Fin 256 → Fin 512 → EReal} {wq : Fin 512 → Fin 256 → EReal} {k : Fin 2 → Fin 1024 → Fin 4 → Fin 64 → EReal}
  (hx : ∀ b i e, ∃ r : ℝ, x b i e = r) (hw : ∀ e l, ∃ r : ℝ, wq e l = r) (hk : ∀ b j h d, ∃ r : ℝ, k b j h d = r)
include hx hw hk

/-- The masked scores of real arrays are real. -/
theorem masked_real (b : Fin 2) (h : Fin 4) (i : Fin 256) (j : Fin 1024) : ∃ r : ℝ, masked x wq k b h i j = r := by
  unfold masked Scalar.select
  split
  · exact mul_real (sum_real _ _ fun d _ => mul_real (sum_real _ _ fun e _ => mul_real (hx b i e) (hw e _)) (hk b j h d)) ⟨_, scale_eq⟩
  · exact ⟨_, low_eq⟩
end Real

end Cert.Attention

end
-- ==== Proof.Value.Kernel.lean ====
/-
The kernel's result, read at an index: it is the formula's, of the whole arrays that the devices' blocks are cut from.
-/
module

public import proofs.«01_k».proof.Proof.KernelIdeal.Run
public import proofs.«01_k».proof.Proof.Value.Attention
public import Idealize.ShloMosaic.Lib.Pointwise

@[expose] public section

set_option maxRecDepth 16384

noncomputable section

namespace Cert.KernelIdeal.Hand

open Cert.KernelIdeal Cert.KernelIdeal.Gen Cert.Attention
open Idealize.ShloMosaic
open Idealize.ShloMosaic.TcCoe

/-! ## The blocks of queries and keys, and the mask -/

/-- A key's block, from its device and its place there, -/
theorem kcol_at (c : Dev nD) (a : Fin 128) (j : Fin 256) : kcol c (ix2 a j) = BitVec.ofNat 32 ((c.val * 256 + j.val) / 64) := by
  unfold kcol
  pointwise [k0_pay41]
  revert c j
  decide +kernel

/-- and a query row's within its half. -/
theorem qrow_at (a : Fin 128) (j : Fin 256) : qrow (ix2 a j) = BitVec.ofNat 32 (a.val / 64) := by
  unfold qrow
  pointwise [k0_pay44, k0_pay42, k0_pay43]
  revert a
  decide +kernel

section Scores
variable (q k v : FVec Ideal S8x256x64 .bf16) (c : Dev nD)

/-- The exponential that a device takes for query row `i` and its key `j`. -/
def term (g : Fin 8) (i j : Fin 256) : EReal :=
  Ideal.exp (Scalar.select (seen (i.val / 64) ((c.val * 256 + j.val) / 64)) (∑ d, q (ix3 g i d) * k (ix3 g j d)) low)

/-- In the first half of the rows, -/
theorem half0_at (g : Fin 8) (a : Fin 128) (j : Fin 256) :
    k0_pay1 q k (kcol c) qrow (ix3 g a j) = term q k c g ⟨a.val, by omega⟩ j := by
  pointwise [k0_pay1]
  rw [kcol_at, qrow_at]
  unfold term
  congr 2
  show _ = seen (a.val / 64) _
  have hq : a.val / 64 < 2 := by omega
  have hk : (c.val * 256 + j.val) / 64 < 16 := by have hc : c.val < 4 := c.isLt; omega
  generalize a.val / 64 = s at hq ⊢
  generalize (c.val * 256 + j.val) / 64 = t at hk ⊢
  revert s t
  decide +kernel

/-- and in the second. -/
theorem half1_at (g : Fin 8) (a : Fin 128) (j : Fin 256) :
    k0_pay19 q k (kcol c) qrow (ix3 g a j) = term q k c g ⟨128 + a.val, by omega⟩ j := by
  pointwise [k0_pay19]
  rw [kcol_at, qrow_at]
  unfold term
  congr 2
  show _ = seen ((128 + a.val) / 64) _
  rw [show (128 + a.val) / 64 = 2 + a.val / 64 by omega]
  have hq : a.val / 64 < 2 := by omega
  have hk : (c.val * 256 + j.val) / 64 < 16 := by have hc : c.val < 4 := c.isLt; omega
  generalize a.val / 64 = s at hq ⊢
  generalize (c.val * 256 + j.val) / 64 = t at hk ⊢
  revert s t
  decide +kernel
end Scores

/-! ## What a device sends -/

/-- Row `a` of device `s`'s rows, and key `j` of device `c`'s keys. -/
def rowOf (s : Dev nD) (a : Fin 64) : Fin 256 := ⟨s.val * 64 + a.val, by have hs : s.val < 4 := s.isLt; omega⟩
def keyOf (c : Dev nD) (j : Fin 256) : Fin 1024 := ⟨c.val * 256 + j.val, by have hc : c.val < 4 := c.isLt; omega⟩
/-- The batch and the head that a group is. -/
def batchOf (g : Fin 8) : Fin 2 := ⟨g.val / 4, by omega⟩
def headIn (g : Fin 8) : Fin 4 := ⟨g.val % 4, by omega⟩

section Sent
variable (m : (ℓ : Loc nD τ sig) → Buf (Elt Ideal) ℓ) (c : Dev nD)

/-- The exponential at device `c` for row `i` and its key `j`. -/
abbrev expAt (g : Fin 8) (i j : Fin 256) : EReal := term (qV m c) (kV m c) c g i j

theorem at0 (g : Fin 8) (a : Fin 128) (i j : Fin 256) (h : i.val = a.val) : k0_pay1 (qV m c) (kV m c) (kcol c) qrow (ix3 g a j) = expAt m c g i j :=
  (half0_at _ _ c g a j).trans (congrArg (term _ _ c g · j) (Fin.ext h.symm))
theorem at1 (g : Fin 8) (a : Fin 128) (i j : Fin 256) (h : i.val = 128 + a.val) : k0_pay19 (qV m c) (kV m c) (kcol c) qrow (ix3 g a j) = expAt m c g i j :=
  (half1_at _ _ c g a j).trans (congrArg (term _ _ c g · j) (Fin.ext h.symm))

/-- The row sums that device `c` has for device `s`'s rows, -/
theorem sV_at (s : Dev nD) (g : Fin 8) (a : Fin 64) : sV m c s (ix3 0 g a) = ∑ j, expAt m c g (rowOf s a) j := by
  fin_cases s
  · pointwise [sV, k0_pay5, k0_pay2]
    exact Finset.sum_congr rfl fun j _ => at0 m c g _ _ j (by show 0 * 64 + a.val = a.val; omega)
  · pointwise [sV, k0_pay7, k0_pay2]
    exact Finset.sum_congr rfl fun j _ => at0 m c g _ _ j (by show 1 * 64 + a.val = 64 + a.val; omega)
  · pointwise [sV, k0_pay23, k0_pay20]
    exact Finset.sum_congr rfl fun j _ => at1 m c g _ _ j (by show 2 * 64 + a.val = 128 + a.val; omega)
  · pointwise [sV, k0_pay25, k0_pay20]
    exact Finset.sum_congr rfl fun j _ => at1 m c g _ _ j (by show 3 * 64 + a.val = 128 + (64 + a.val); omega)

/-- and the partial contexts. -/
theorem cV_at (s : Dev nD) (g : Fin 8) (a d : Fin 64) : cV m c s (ix4 0 g a d) = ∑ j, expAt m c g (rowOf s a) j * vV m c (ix3 g j d) := by
  fin_cases s
  · pointwise [cV, k0_pay4, k0_pay3]
    exact Finset.sum_congr rfl fun j _ => congrArg (· * _) (at0 m c g _ _ j (by show 0 * 64 + a.val = a.val; omega))
  · pointwise [cV, k0_pay6, k0_pay3]
    exact Finset.sum_congr rfl fun j _ => congrArg (· * _) (at0 m c g _ _ j (by show 1 * 64 + a.val = 64 + a.val; omega))
  · pointwise [cV, k0_pay22, k0_pay21]
    exact Finset.sum_congr rfl fun j _ => congrArg (· * _) (at1 m c g _ _ j (by show 2 * 64 + a.val = 128 + a.val; omega))
  · pointwise [cV, k0_pay24, k0_pay21]
    exact Finset.sum_congr rfl fun j _ => congrArg (· * _) (at1 m c g _ _ j (by show 3 * 64 + a.val = 128 + (64 + a.val); omega))

theorem qV_at (g : Fin 8) (i : Fin 256) (d : Fin 64) :
    qV m c (ix3 g i d) = ∑ e, aX m c (ix3 (batchOf g) i e) * (aQ m c (ix2 e (lane (headIn g) d)) * scale) := by
  pointwise [qV, k0_pay37]
  refine Finset.sum_congr rfl fun e _ => ?_
  rw [show (⟨(g.val / 4 * 256 + i.val) / 256, by omega⟩ : Fin 2) = batchOf g from Fin.ext (by show (g.val / 4 * 256 + i.val) / 256 = g.val / 4; omega)]
  rfl
theorem kV_at (g : Fin 8) (j : Fin 256) (d : Fin 64) : kV m c (ix3 g j d) = aK m c (ix4 (batchOf g) j (headIn g) d) := by
  pointwise [kV, k0_pay39, k0_pay38]
  rfl
theorem vV_at (g : Fin 8) (j : Fin 256) (d : Fin 64) : vV m c (ix3 g j d) = aV m c (ix4 (batchOf g) j (headIn g) d) := by
  pointwise [vV, k0_pay40]
  rfl
end Sent

/-- The gathered context is the context: over extended reals the cast for sending changes nothing. -/
theorem gV_at (m : (ℓ : Loc nD τ sig) → Buf (Elt Ideal) ℓ) (s : Dev nD) (b : Fin 2) (a : Fin 64) (l : Fin 256) :
    gV m s (ix4 0 b a l) = ctx32 m s (ix3 b a l) := by
  refine Eq.trans (b := shapeCast S1x2x64x256 (ctx16 m s) squeezes_S1x2x64x256_S2x64x256.numel_eq.symm (ix4 0 b a l)) rfl ?_
  pointwise [ctx16, ctx32, k0_pay53, k0_pay52]

/-! ## The result -/

section Whole
variable (m : (ℓ : Loc nD τ sig) → Buf (Elt Ideal) ℓ)
  {x : Fin 2 → Fin 256 → Fin 512 → EReal} {wq : Fin 512 → Fin 256 → EReal} {k v : Fin 2 → Fin 1024 → Fin 4 → Fin 64 → EReal} {wo : Fin 256 → Fin 512 → EReal}
  (hx : ∀ c b i e, aX m c (ix3 b i e) = x b i e) (hw : ∀ c e l, aQ m c (ix2 e l) = wq e l)
  (hk : ∀ c b j h d, aK m c (ix4 b j h d) = k b (keyOf c j) h d) (hv : ∀ c b j h d, aV m c (ix4 b j h d) = v b (keyOf c j) h d)
  (ho : ∀ c l n, aO m c (ix2 l n) = wo l n)

include hx hw hk in
/-- A device's exponential is the formula's at the key's place among all keys. -/
theorem expAt_eq (c : Dev nD) (g : Fin 8) (i j : Fin 256) :
    expAt m c g i j = Ideal.exp (masked x wq k (batchOf g) (headIn g) i (keyOf c j)) := by
  unfold expAt term masked score
  simp only [qV_at, kV_at, hx, hw, hk]
  rw [scale_out (x (batchOf g) i) (fun e d => wq e (lane (headIn g) d)) (fun d => k (batchOf g) (keyOf c j) (headIn g) d)]
  rfl

include hx hw hk hv in
/-- Device `s`'s context rows are the formula's. -/
theorem ctx32_at (s : Dev nD) (b : Fin 2) (a : Fin 64) (l : Fin 256) :
    ctx32 m s (ix3 b a l) = ctx x wq k v b (headOf l) (rowOf s a) (placeOf l) := by
  pointwise [ctx32, denV, k0_pay52, k0_pay50, k0_pay51]
  simp only [sV_at, cV_at, expAt_eq m hx hw hk, vV_at, hv]
  rw [show batchOf ⟨b.val * 4 + l.val / 64, by omega⟩ = b from Fin.ext (by show (b.val * 4 + l.val / 64) / 4 = b.val; omega),
    show headIn ⟨b.val * 4 + l.val / 64, by omega⟩ = headOf l from Fin.ext (by show (b.val * 4 + l.val / 64) % 4 = l.val / 64; omega)]
  unfold ctx pull mass
  rw [sum_devices, sum_devices, Fin.sum_univ_four, Fin.sum_univ_four]
  rfl

include hx hw hk hv ho in
/-- A block of the result, made here or from what was gathered, is the formula's. -/
theorem outSl_at (c s : Dev nD) (b : Fin 2) (a : Fin 64) (n : Fin 512) :
    outSl m c s (ix3 b a n) = out x wq k v wo b (rowOf s a) n := by
  unfold outSl
  split
  · next e =>
    subst e
    pointwise [k0_pay54, k0_pay49]
    exact Finset.sum_congr rfl fun l _ => by rw [ctx32_at m hx hw hk hv, ho]
  · pointwise [k0_pay55, k0_pay49]
    exact Finset.sum_congr rfl fun l _ => by rw [gV_at, ctx32_at m hx hw hk hv, ho]

include hx hw hk hv ho in
/-- The kernel's result is the formula's. -/
theorem result_at (c : Dev nD) (b : Fin 2) (i : Fin 256) (n : Fin 512) : outV m c (ix3 b i n) = out x wq k v wo b i n := by
  refine (outSl_at m hx hw hk hv ho c _ b ⟨i.val % 64, by omega⟩ n).trans (congrArg (out x wq k v wo b · n) (Fin.ext ?_))
  show i.val / 64 * 64 + i.val % 64 = i.val
  omega
end Whole

end Cert.KernelIdeal.Hand

end
-- ==== Proof.Value.Reference.lean ====
/-
The reference's result in named stages, each read at an index.
-/
module

public import proofs.«01_k».proof.Proof.Gen.ReferenceIdeal.Run
public import proofs.«01_k».proof.Proof.Value.Attention
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.Attention hiding masked

/-- The block of 64 that a query row is in, in a column. -/
def rowBlk : IVec S256x1 32 :=
  let n : IVec S_ 32 := constantI S_ 32 64#32
  let i : IVec S256 32 := iotaInDim S256 32 0
  let b : IVec S256 32 := broadcastInDim S256 ![] bcast_S_S256 n
  let d : IVec S256 32 := Host.divsi i b
  broadcastInDim S256x1 ![0] bcast_S256_S256x1_0
    (select (andi (cmpi .ne (signi i) (broadcastInDim S256 ![] bcast_S_S256 (signi n)))
      (cmpi .ne (Host.remsi i b) (broadcastInDim S256 ![] bcast_S_S256 (constantI S_ 32 0#32))))
      (subi d (broadcastInDim S256 ![] bcast_S_S256 (constantI S_ 32 1#32))) d)

/-- The block of 64 that a key is in, in a row. -/
def colBlk : IVec S1x1024 32 :=
  let n : IVec S_ 32 := constantI S_ 32 64#32
  let i : IVec S1024 32 := iotaInDim S1024 32 0
  let b : IVec S1024 32 := broadcastInDim S1024 ![] bcast_S_S1024 n
  let d : IVec S1024 32 := Host.divsi i b
  broadcastInDim S1x1024 ![1] bcast_S1024_S1x1024_1
    (select (andi (cmpi .ne (signi i) (broadcastInDim S1024 ![] bcast_S_S1024 (signi n)))
      (cmpi .ne (Host.remsi i b) (broadcastInDim S1024 ![] bcast_S_S1024 (constantI S_ 32 0#32))))
      (subi d (broadcastInDim S1024 ![] bcast_S_S1024 (constantI S_ 32 1#32))) d)

/-- Which keys a query row may see. -/
def mask : IVec S256x1024 1 :=
  let qb : IVec S256x1024 32 := broadcastInDim S256x1024 ![0, 1] bcast_S256x1_S256x1024_0_1 rowBlk
  let kb : IVec S256x1024 32 := broadcastInDim S256x1024 ![0, 1] bcast_S1x1024_S256x1024_0_1 colBlk
  let z : IVec S256x1024 32 := broadcastInDim S256x1024 ![] bcast_S_S256x1024 (constantI S_ 32 0#32)
  let t : IVec S_ 32 := select (cmpi .eq (constantI S_ 32 3#32) (constantI S_ 32 0#32)) (constantI S_ 32 1#32) (constantI S_ 32 3#32)
  let tt : IVec S256x1024 32 := broadcastInDim S256x1024 ![] bcast_S_S256x1024 t
  let r : IVec S256x1024 32 := Host.remsi (addi qb kb) tt
  ori (ori (cmpi .eq qb kb)
      (broadcastInDim S256x1024 ![0, 1] bcast_S1x1024_S256x1024_0_1 (cmpi .eq colBlk (broadcastInDim S1x1024 ![] bcast_S_S1x1024 (constantI S_ 32 0#32)))))
    (cmpi .eq (select (andi (cmpi .ne (cmpi .slt r z) (broadcastInDim S256x1024 ![] bcast_S_S256x1024 (cmpi .slt t (constantI S_ 32 0#32)))) (cmpi .ne r z))
      (addi r tt) r) z)

/-- Whether a query row sees any key. -/
def someKey : IVec S256 1 := Host.reduce IntOp.ori mask (constantI S_ 1 0#1) reducesTo_S256x1024_S256_d1 h_S_

section Stages
variable {F : FTy → Type} [FloatOps F] (x : FVec F S2x256x512 .f32) (wq : FVec F S512x256 .f32) (k v : FVec F S2x1024x4x64 .f32) (wo : FVec F S256x512 .f32)

/-- The scores, -/
def scores : FVec F S2x4x256x1024 .f32 :=
  mulf (Host.dotGeneral dot_S2x256x4x64_S2x1024x4x64_S2x4x256x1024_3_3_1_1_02_02 none
      (shapeCast S2x256x4x64 (Host.dotGeneral dot_S2x256x512_S512x256_S2x256x256_2_0_01_1_n_n none x wq) shapeCasts_S2x256x256_S2x256x4x64) k)
    (broadcastInDim S2x4x256x1024 ![] bcast_S_S2x4x256x1024 (constant S_ .f32 0x3E000000#32))

/-- the scores with the masked ones replaced, -/
def masked : FVec F S2x4x256x1024 .f32 :=
  select (broadcastInDim S2x4x256x1024 ![0, 1, 2, 3] bcast_S1x1x256x1024_S2x4x256x1024_0_1_2_3
      (broadcastInDim S1x1x256x1024 ![2, 3] bcast_S256x1024_S1x1x256x1024_2_3 mask))
    (scores x wq k) (broadcastInDim S2x4x256x1024 ![] bcast_S_S2x4x256x1024 (constant S_ .f32 0xCE6E6B28#32))

/-- the greatest of a row, -/
def rowMax : FVec F S2x4x256 .f32 :=
  Host.reduce FloatOps.maximumf (masked x wq k) (constant S_ .f32 0xFF800000#32) reducesTo_S2x4x256x1024_S2x4x256_d3 h_S_

/-- the exponentials of the differences from it, -/
def exps : FVec F S2x4x256x1024 .f32 :=
  Host.exp (subf (masked x wq k) (broadcastInDim S2x4x256x1024 ![0, 1, 2, 3] bcast_S2x4x256x1_S2x4x256x1024_0_1_2_3
    (broadcastInDim S2x4x256x1 ![0, 1, 2] bcast_S2x4x256_S2x4x256x1_0_1_2 (rowMax x wq k))))

/-- their row sums, -/
def rowSum : FVec F S2x4x256 .f32 :=
  Host.reduceAdd (exps x wq k) (constant S_ .f32 0x00000000#32) reducesTo_S2x4x256x1024_S2x4x256_d3 h_S_

/-- the weights, -/
def weights : FVec F S2x4x256x1024 .f32 :=
  select (broadcastInDim S2x4x256x1024 ![0, 1, 2, 3] bcast_S1x1x256x1_S2x4x256x1024_0_1_2_3
      (broadcastInDim S1x1x256x1 ![2] bcast_S256_S1x1x256x1_2 someKey))
    (Host.divf (exps x wq k) (broadcastInDim S2x4x256x1024 ![0, 1, 2, 3] bcast_S2x4x256x1_S2x4x256x1024_0_1_2_3
      (select (broadcastInDim S2x4x256x1 ![0, 1, 2, 3] bcast_S1x1x256x1_S2x4x256x1_0_1_2_3
          (broadcastInDim S1x1x256x1 ![2] bcast_S256_S1x1x256x1_2 someKey))
        (broadcastInDim S2x4x256x1 ![0, 1, 2] bcast_S2x4x256_S2x4x256x1_0_1_2 (rowSum x wq k))
        (broadcastInDim S2x4x256x1 ![] bcast_S_S2x4x256x1 (constant S_ .f32 0x3F800000#32)))))
    (broadcastInDim S2x4x256x1024 ![] bcast_S_S2x4x256x1024 (constant S_ .f32 0x00000000#32))

/-- the context, -/
def context : FVec F S2x4x64x256 .f32 :=
  Host.dotGeneral dot_S2x1024x4x64_S2x4x256x1024_S2x4x64x256_1_3_3_2_02_01 none v (weights x wq k)

/-- and the result. -/
def result : FVec F S2x256x512 .f32 :=
  Host.dotGeneral dot_S2x256x256_S256x512_S2x256x512_2_0_01_1_n_n none
    (shapeCast S2x256x256 (transpose S2x256x4x64 [0, 3, 1, 2] (context x wq k v) transposes_S2x4x64x256_S2x256x4x64_0_3_1_2)
      shapeCasts_S2x256x4x64_S2x256x256) wo
end Stages

/-- The reference leaves `result` of its arguments. -/
theorem res_eq {F : FTy → Type} [FloatOps F] (m : (ℓ : Loc nD τ sig) → Buf (Elt F) ℓ) (c : Dev nD) :
    res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_out0 res_main_v44
  rfl

/-! ## The mask -/

/-- A query row's block, -/
theorem rowBlk_at (i : Fin 256) : rowBlk (ix2 i 0) = BitVec.ofNat 32 (i.val / 64) := by
  pointwise [rowBlk]
  revert i
  decide +kernel

/-- and a key's; -/
theorem colBlk_at (j : Fin 1024) : colBlk (ix2 0 j) = BitVec.ofNat 32 (j.val / 64) := by
  pointwise [colBlk]
  revert j
  decide +kernel

/-- the mask is the blocks' relation, -/
theorem mask_at (i : Fin 256) (j : Fin 1024) : mask (ix2 i j) = seen (i.val / 64) (j.val / 64) := by
  pointwise [mask]
  rw [rowBlk_at, colBlk_at]
  have hq : i.val / 64 < 4 := by omega
  have hk : j.val / 64 < 16 := by omega
  generalize i.val / 64 = q at hq ⊢
  generalize j.val / 64 = k at hk ⊢
  revert q k
  decide +kernel

/-- and every query row sees a key, for it sees the first. -/
theorem someKey_at (i : Fin 256) : someKey (ix1 i) = 1#1 := by
  pointwise [someKey]
  have h1 : ∀ b : BitVec 1, IntOp.ori 1#1 b = 1#1 := by decide
  rw [← Finset.insert_erase (Finset.mem_univ (0 : Fin 1024)), Finset.fold_insert (Finset.notMem_erase _ _), mask_at,
    show seen (i.val / 64) ((0 : Fin 1024).val / 64) = 1#1 from if_pos (Or.inr (Or.inl rfl))]
  exact h1 _

/-! ## The stages at an index -/

section Read
variable (x : FVec Ideal S2x256x512 .f32) (wq : FVec Ideal S512x256 .f32) (k v : FVec Ideal S2x1024x4x64 .f32) (wo : FVec Ideal S256x512 .f32)

/-- The arrays by their coordinates. -/
abbrev cx (x : FVec Ideal S2x256x512 .f32) : Fin 2 → Fin 256 → Fin 512 → EReal := fun b i e => x (ix3 b i e)
abbrev cw (wq : FVec Ideal S512x256 .f32) : Fin 512 → Fin 256 → EReal := fun e l => wq (ix2 e l)
abbrev ck (k : FVec Ideal S2x1024x4x64 .f32) : Fin 2 → Fin 1024 → Fin 4 → Fin 64 → EReal := fun b j h d => k (ix4 b j h d)
abbrev co (wo : FVec Ideal S256x512 .f32) : Fin 256 → Fin 512 → EReal := fun l n => wo (ix2 l n)

theorem scores_at (b : Fin 2) (h : Fin 4) (i : Fin 256) (j : Fin 1024) : scores x wq k (ix4 b h i j) = score (cx x) (cw wq) (ck k) b h i j := by
  pointwise [scores]
  rfl

theorem masked_at (b : Fin 2) (h : Fin 4) (i : Fin 256) (j : Fin 1024) :
    masked x wq k (ix4 b h i j) = Attention.masked (cx x) (cw wq) (ck k) b h i j := by
  pointwise [masked]
  rw [mask_at, scores_at]
  rfl

theorem rowMax_at (b : Fin 2) (h : Fin 4) (i : Fin 256) :
    rowMax x wq k (ix3 b h i) = Finset.univ.fold max ⊥ fun j => Attention.masked (cx x) (cw wq) (ck k) b h i j := by
  pointwise [rowMax]
  rw [show Ideal.ofBits FTy.f32 4286578688#32 = ⊥ by simp [Ideal.ofBits, Ideal.ieee]]
  exact Finset.fold_congr fun j _ => masked_at x wq k b h i j

theorem exps_at (b : Fin 2) (h : Fin 4) (i : Fin 256) (j : Fin 1024) :
    exps x wq k (ix4 b h i j) = Ideal.exp (Attention.masked (cx x) (cw wq) (ck k) b h i j - rowMax x wq k (ix3 b h i)) := by
  pointwise [exps]
  rw [masked_at]

theorem weights_at (b : Fin 2) (h : Fin 4) (i : Fin 256) (j : Fin 1024) :
    weights x wq k (ix4 b h i j) = Ideal.div (exps x wq k (ix4 b h i j)) (∑ j, exps x wq k (ix4 b h i j)) := by
  pointwise [weights, rowSum]
  rw [someKey_at]
  rfl

/-- The reference's context, when its scores are real. -/
theorem context_at (hx : ∀ b i e, ∃ r : ℝ, cx x b i e = r) (hw : ∀ e l, ∃ r : ℝ, cw wq e l = r) (hk : ∀ b j h d, ∃ r : ℝ, ck k b j h d = r)
    (b : Fin 2) (h : Fin 4) (i : Fin 256) (d : Fin 64) :
    ∑ j, v (ix4 b j h d) * weights x wq k (ix4 b h i j) = ctx (cx x) (cw wq) (ck k) (ck v) b h i d := by
  simp only [weights_at, exps_at]
  exact softmax_shift (by decide) _ _ _ (masked_real hx hw hk b h i)
    (by rw [rowMax_at]; exact fold_max_real _ Finset.univ_nonempty _ (masked_real hx hw hk b h i))

/-- The reference's result is the formula's, when its scores are real. -/
theorem result_at (hx : ∀ b i e, ∃ r : ℝ, cx x b i e = r) (hw : ∀ e l, ∃ r : ℝ, cw wq e l = r) (hk : ∀ b j h d, ∃ r : ℝ, ck k b j h d = r)
    (b : Fin 2) (i : Fin 256) (n : Fin 512) :
    result x wq k v wo (ix3 b i n) = out (cx x) (cw wq) (ck k) (ck v) (co wo) b i n := by
  pointwise [result, context]
  exact Finset.sum_congr rfl fun l _ => congrArg (· * wo (ix2 l n)) (context_at x wq k v hx hw hk b (headOf l) i (placeOf l))
end Read

end Cert.ReferenceIdeal.Value

end
-- ==== Proof.Value.Agree.lean ====
/-
The two programs leave the same result: the kernel's on every device is the reference's, of arrays whose blocks the devices
hold, when the arrays that the scores are made of hold no infinity.
-/
module

public import proofs.«01_k».proof.Defs
public import proofs.«01_k».proof.Proof.Value.Result
public import proofs.«01_k».proof.Proof.Value.Kernel
public import proofs.«01_k».proof.Proof.Value.Reference
public import proofs.«01_k».proof.Proof.Gen.Pre_finite_scores_KernelIdeal
public import Idealize.ShloMosaic.Lib.ReduceAll

@[expose] public section

noncomputable section

namespace Cert.Agree

open Idealize.ShloMosaic Idealize.ShloMosaic.TcCoe Idealize.SL.Sem

/-! ## The precondition -/

/-- A number whose magnitude compares below infinity is real. -/
theorem real_of_below (x : EReal) (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  have h : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => simp at h
  | top => simp at h
  | coe r => exact ⟨r, rfl⟩

section Pre
open Cert.Pre_finite_scores_KernelIdeal Cert.Pre_finite_scores_KernelIdeal.Gen
attribute [local instance] Cert.Pre_finite_scores_KernelIdeal.Gen.facts

instance : Subsingleton S_.Idx := ⟨fun _ _ => funext fun a => a.elim0⟩

/-- Three bits whose conjunction is 1 are 1. -/
theorem bits3 (a b c : BitVec 1) (h : IntOp.andi (IntOp.andi a b) c = 1#1) : a = 1#1 ∧ b = 1#1 ∧ c = 1#1 := by
  revert a b c; decide

/-- The precondition says that the three arrays hold real numbers. -/
theorem real_of_pre (x : FVec Ideal S2x256x512 .f32) (wq : FVec Ideal S512x256 .f32) (k v : FVec Ideal S2x256x4x64 .f32) (wo : FVec Ideal S256x512 .f32)
    (h : fn x wq k v wo = fun _ => 1#1) : (∀ i, ∃ r : ℝ, x i = r) ∧ (∀ i, ∃ r : ℝ, wq i = r) ∧ (∀ i, ∃ r : ℝ, k i = r) := by
  have h := bits3 _ _ _ (congrFun h (fun a => a.elim0))
  exact ⟨fun i => real_of_below _ (Host.reduce_andi_all _ _ _ _ _ h.1 i), fun i => real_of_below _ (Host.reduce_andi_all _ _ _ _ _ h.2.1 i),
    fun i => real_of_below _ (Host.reduce_andi_all _ _ _ _ _ h.2.2 i)⟩
end Pre

/-! ## The blocks -/

/-- Device `c`'s block of the keys or values at a place is the whole array's at that place among all keys. -/
theorem block_at (c : Fin 4) (y : (⟨4, ![2, 1024, 4, 64]⟩ : Shape).Idx → EReal) (b : Fin 2) (j : Fin 256) (h : Fin 4) (d : Fin 64) :
    Layout.block ⟨4, ![2, 256, 4, 64]⟩ ⟨4, ![2, 1024, 4, 64]⟩ 1 4 c y (by decide) (ix4 b j h d) = y (ix4 b (KernelIdeal.Hand.keyOf c j) h d) := by
  rw [Layout.block_apply]
  refine congrArg y (funext fun a => Fin.ext ?_)
  rw [Layout.Tiles.idx_val]
  fin_cases a <;> rfl

/-- A place among all keys is a device's. -/
theorem key_split (j : Fin 1024) : ∃ (c : Fin 4) (i : Fin 256), j = KernelIdeal.Hand.keyOf c i :=
  ⟨⟨j.val / 256, by omega⟩, ⟨j.val % 256, by omega⟩, Fin.ext (by show j.val = j.val / 256 * 256 + j.val % 256; omega)⟩

/-! ## The results -/

section Result
open Cert.KernelIdeal.Hand Cert.ReferenceIdeal.Value
attribute [local instance] Cert.KernelIdeal.Gen.facts Cert.ReferenceIdeal.Gen.facts Cert.Pre_finite_scores_KernelIdeal.Gen.facts

variable (m : (ℓ : Loc Cert.KernelIdeal.nD Cert.KernelIdeal.τ Cert.KernelIdeal.sig) → Buf (Elt Ideal) ℓ)
  (x : FVec Ideal Cert.ReferenceIdeal.S2x256x512 .f32) (wq : FVec Ideal Cert.ReferenceIdeal.S512x256 .f32)
  (k v : FVec Ideal Cert.ReferenceIdeal.S2x1024x4x64 .f32) (wo : FVec Ideal Cert.ReferenceIdeal.S256x512 .f32)

/-- From memories whose blocks are cut from the whole arrays, the kernel's result is the reference's. -/
theorem result_eq (hp : Pre_KernelIdeal_finite_scores_KernelIdeal m)
    (hx : ∀ c : Dev Cert.KernelIdeal.nD, m ((c.tc : Thread Cert.KernelIdeal.nD Cert.KernelIdeal.τ).loc Cert.KernelIdeal.main_arg0) = x)
    (hw : ∀ c : Dev Cert.KernelIdeal.nD, m ((c.tc : Thread Cert.KernelIdeal.nD Cert.KernelIdeal.τ).loc Cert.KernelIdeal.main_arg1) = wq)
    (hk : ∀ c : Dev Cert.KernelIdeal.nD, m ((c.tc : Thread Cert.KernelIdeal.nD Cert.KernelIdeal.τ).loc Cert.KernelIdeal.main_arg2)
      = Layout.block ⟨4, ![2, 256, 4, 64]⟩ ⟨4, ![2, 1024, 4, 64]⟩ 1 4 c k)
    (hv : ∀ c : Dev Cert.KernelIdeal.nD, m ((c.tc : Thread Cert.KernelIdeal.nD Cert.KernelIdeal.τ).loc Cert.KernelIdeal.main_arg3)
      = Layout.block ⟨4, ![2, 256, 4, 64]⟩ ⟨4, ![2, 1024, 4, 64]⟩ 1 4 c v)
    (ho : ∀ c : Dev Cert.KernelIdeal.nD, m ((c.tc : Thread Cert.KernelIdeal.nD Cert.KernelIdeal.τ).loc Cert.KernelIdeal.main_arg4) = wo)
    (c : Dev Cert.KernelIdeal.nD) : outV m c = result x wq k v wo := by
  have real := fun c => real_of_pre _ _ _ _ _ (hp c)
  have hK : ∀ (c : Dev Cert.KernelIdeal.nD) b j h d, aK m c (ix4 b j h d) = ck k b (keyOf c j) h d := fun c b j h d =>
    (congrFun ((aK_eq m c).trans (hk c)) _).trans (block_at c k b j h d)
  have hV : ∀ (c : Dev Cert.KernelIdeal.nD) b j h d, aV m c (ix4 b j h d) = ck v b (keyOf c j) h d := fun c b j h d =>
    (congrFun ((aV_eq m c).trans (hv c)) _).trans (block_at c v b j h d)
  have rx : ∀ b i e, ∃ r : ℝ, cx x b i e = r := fun b i e => hx 0 ▸ (real 0).1 (ix3 b i e)
  have rw' : ∀ e l, ∃ r : ℝ, cw wq e l = r := fun e l => hw 0 ▸ (real 0).2.1 (ix2 e l)
  have rk : ∀ b j h d, ∃ r : ℝ, ck k b j h d = r := fun b j h d => by
    obtain ⟨c, i, rfl⟩ := key_split j
    obtain ⟨r, hr⟩ := (real c).2.2 (ix4 b i h d)
    exact ⟨r, (hK c b i h d).symm.trans ((congrFun (aK_eq m c) _).trans hr)⟩
  funext y
  obtain ⟨b, i, n, rfl⟩ : ∃ (b : Fin 2) (i : Fin 256) (n : Fin 512), y = ix3 b i n := ⟨y 0, y 1, y 2, eq_ix3 y⟩
  rw [KernelIdeal.Hand.result_at m (x := cx x) (wq := cw wq) (k := ck k) (v := ck v) (wo := co wo)
      (fun c b i e => congrFun ((aX_eq m c).trans (hx c)) _) (fun c e l => congrFun ((aQ_eq m c).trans (hw c)) _) hK hV
      (fun c l n => congrFun ((aO_eq m c).trans (ho c)) _) c b i n]
  exact (ReferenceIdeal.Value.result_at x wq k v wo rx rw' rk b i n).symm
end Result

/-! ## The claim -/

/-- Both programs run, keep their arguments, and leave the same result on every device. -/
theorem algebraic : algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) :=
  fun m g m' g' hp hm => ⟨ReferenceIdeal.Value.res_out0 m' 0,
    (θ_run _ _ _).mono (fun _ h c => ⟨(h c).1.trans ((result_eq m _ _ _ _ _ hp (fun c => (hm c).1) (fun c => (hm c).2.1) (fun c => (hm c).2.2.1)
      (fun c => (hm c).2.2.2.1) (fun c => (hm c).2.2.2.2) c).trans (ReferenceIdeal.Value.res_eq m' 0).symm), (h c).2⟩) (KernelIdeal.Hand.value_run m g),
    (θ_run _ _ _).mono (fun _ h => h 0) (ReferenceIdeal.Value.run m' g')⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Gen.Pre_finite_scores_KernelIdeal
public import proofs.«01_k».proof.Proof.Gen.Pre_finite_scores_ReferenceIdeal
public import proofs.«01_k».proof.Proof.Kernel.Run
public import proofs.«01_k».proof.Proof.KernelIdeal.Run
public import proofs.«01_k».proof.Proof.Value.Agree
public import Idealize.ShloMosaic.Lib.Quiescent

@[expose] public section

noncomputable section

namespace Cert.Proof

open Idealize.ShloMosaic Idealize.SL.Sem

/-- The kernel at bit patterns terminates on the four devices, keeps its arguments and leaves every counter at zero. -/
theorem kernel_frame : quiescent_Kernel (hKernel := Cert.Kernel.Gen.facts) :=
  fun m g _ => Cert.Kernel.Hand.frame_run m g

/-- The same of the kernel read at extended reals. -/
theorem kernel_ideal_frame : quiescent_KernelIdeal (hKernelIdeal := Cert.KernelIdeal.Gen.facts) :=
  fun m g _ => Cert.KernelIdeal.Hand.frame_run m g

/-- The reference terminates, keeps its arguments, and has no counter that could be off zero. -/
theorem reference_frame : quiescent_ReferenceIdeal (hReferenceIdeal := Cert.ReferenceIdeal.Gen.facts) :=
  fun m g _ => (θ_run _ _ _).mono
    (fun r h => ⟨fun c => (h c).2, sem_eq_zero_of_no_sems rfl r.2⟩) (Cert.ReferenceIdeal.Value.run m g)

/-- All the claims: a frame that holds of every memory holds of those that meet the precondition. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    kernel_frame, kernel_ideal_frame, fun m g _ => kernel_ideal_frame m g trivial,
    reference_frame, fun m g _ => reference_frame m g trivial, trivial, Cert.Agree.algebraic⟩

end Cert.Proof

end
